-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S16x128
  ∧ IdealRules.bf16_pair.Statement Cert.KernelIdeal.S32x128 Cert.KernelIdeal.S16x128

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S2x1792x40x16 : Shape := ⟨4, ![2, 1792, 40, 16]⟩
abbrev S2x40x16 : Shape := ⟨3, ![2, 40, 16]⟩
abbrev S1280x1792x3x3 : Shape := ⟨4, ![1280, 1792, 3, 3]⟩
abbrev S1280 : Shape := ⟨1, ![1280]⟩
abbrev S_ : Shape := ⟨0, ![]⟩

class Facts : Prop where
  bcast_S_S2x40x16 : S_.BroadcastsInDim S2x40x16 (![] : Fin 0 → Fin S2x40x16.rank)

variable [Facts]

def fn {F : FTy → Type} [FloatOps F] (main_arg0 : FVec F S2x1792x40x16 .fp8e4m3) (main_arg1 : FVec F S2x40x16 .f32) (main_arg2 : FVec F S1280x1792x3x3 .fp8e4m3) (main_arg3 : FVec F S1280 .f32) (main_arg4 : FVec F S1280 .f32) : IVec S2x40x16 1 :=
  let main_cst : FVec F S_ .f32 := constant S_ .f32 0x00000000#32
  let main_v0 : FVec F S2x40x16 .f32 := broadcastInDim S2x40x16 ![] bcast_S_S2x40x16 main_cst
  let main_v1 : IVec S2x40x16 1 := cmpf .oge main_arg1 main_v0
  let main_cst_0 : FVec F S_ .f32 := constant S_ .f32 0x7F800000#32
  let main_v2 : FVec F S2x40x16 .f32 := broadcastInDim S2x40x16 ![] bcast_S_S2x40x16 main_cst_0
  let main_v3 : IVec S2x40x16 1 := cmpf .olt main_arg1 main_v2
  let main_v4 : IVec S2x40x16 1 := andi main_v1 main_v3
  main_v4
-- ==== Kernel.lean ====
abbrev S2x1792x40x16 : Shape := ⟨4, ![2, 1792, 40, 16]⟩
abbrev S2x40x16 : Shape := ⟨3, ![2, 40, 16]⟩
abbrev S1280x1792x3x3 : Shape := ⟨4, ![1280, 1792, 3, 3]⟩
abbrev S1280 : Shape := ⟨1, ![1280]⟩
abbrev S2x40x16x1792 : Shape := ⟨4, ![2, 40, 16, 1792]⟩
abbrev S80x16x1792 : Shape := ⟨3, ![80, 16, 1792]⟩
abbrev S80x16x1 : Shape := ⟨3, ![80, 16, 1]⟩
abbrev S80x16x128 : Shape := ⟨3, ![80, 16, 128]⟩
abbrev S3x3x1280x1792 : Shape := ⟨4, ![3, 3, 1280, 1792]⟩
abbrev S9x1280x1792 : Shape := ⟨3, ![9, 1280, 1792]⟩
abbrev S5x1x256 : Shape := ⟨3, ![5, 1, 256]⟩
abbrev S2x80x32x1280 : Shape := ⟨4, ![2, 80, 32, 1280]⟩
abbrev S9x256x1792 : Shape := ⟨3, ![9, 256, 1792]⟩
abbrev S1x1x256 : Shape := ⟨3, ![1, 1, 256]⟩
abbrev S2x80x32x256 : Shape := ⟨4, ![2, 80, 32, 256]⟩
abbrev S1280x1792 : Shape := ⟨2, ![1280, 1792]⟩
abbrev S9x80x16x256 : Shape := ⟨4, ![9, 80, 16, 256]⟩
abbrev S2x16x1792 : Shape := ⟨3, ![2, 16, 1792]⟩
abbrev S32x1792 : Shape := ⟨2, ![32, 1792]⟩
abbrev S1x256x1792 : Shape := ⟨3, ![1, 256, 1792]⟩
abbrev S256x1792 : Shape := ⟨2, ![256, 1792]⟩
abbrev S1280x256 : Shape := ⟨2, ![1280, 256]⟩
abbrev S80x16x256 : Shape := ⟨3, ![80, 16, 256]⟩
abbrev S1x80x16x256 : Shape := ⟨4, ![1, 80, 16, 256]⟩
abbrev S1x1x128 : Shape := ⟨3, ![1, 1, 128]⟩
abbrev S128 : Shape := ⟨1, ![128]⟩
abbrev S1x1x16x128 : Shape := ⟨4, ![1, 1, 16, 128]⟩
abbrev S16x128 : Shape := ⟨2, ![16, 128]⟩
abbrev S1x16x128 : Shape := ⟨3, ![1, 16, 128]⟩
abbrev S32x128 : Shape := ⟨2, ![32, 128]⟩
abbrev S1x1x32x128 : Shape := ⟨4, ![1, 1, 32, 128]⟩
abbrev S2x1280x80x32 : Shape := ⟨4, ![2, 1280, 80, 32]⟩

abbrev nBuf : Space → Nat
  | .hbm => 17
  | .vmem => 12
  | .smem => 0
  | _ => 0

abbrev bufTy : (tb : Table) → Fin (tcTables nBuf tb) → BufTy
  | .hbm, ⟨0, _⟩ => ⟨S2x1792x40x16, .fp8e4m3⟩
  | .hbm, ⟨1, _⟩ => ⟨S2x40x16, .f32⟩
  | .hbm, ⟨2, _⟩ => ⟨S1280x1792x3x3, .fp8e4m3⟩
  | .hbm, ⟨3, _⟩ => ⟨S1280, .f32⟩
  | .hbm, ⟨4, _⟩ => ⟨S1280, .f32⟩
  | .hbm, ⟨5, _⟩ => ⟨S2x40x16x1792, .fp8e4m3⟩
  | .hbm, ⟨6, _⟩ => ⟨S80x16x1792, .fp8e4m3⟩
  | .hbm, ⟨7, _⟩ => ⟨S2x40x16, .bf16⟩
  | .hbm, ⟨8, _⟩ => ⟨S2x40x16, .f32⟩
  | .hbm, ⟨9, _⟩ => ⟨S80x16x1, .f32⟩
  | .hbm, ⟨10, _⟩ => ⟨S80x16x128, .f32⟩
  | .hbm, ⟨11, _⟩ => ⟨S3x3x1280x1792, .fp8e4m3⟩
  | .hbm, ⟨12, _⟩ => ⟨S9x1280x1792, .fp8e4m3⟩
  | .hbm, ⟨13, _⟩ => ⟨S5x1x256, .f32⟩
  | .hbm, ⟨14, _⟩ => ⟨S5x1x256, .f32⟩
  | .hbm, ⟨15, _⟩ => ⟨S2x80x32x1280, .bf16⟩
  | .hbm, ⟨16, _⟩ => ⟨S2x1280x80x32, .bf16⟩
  | .local _ .vmem, ⟨0, _⟩ => ⟨S80x16x1792, .fp8e4m3⟩
  | .local _ .vmem, ⟨1, _⟩ => ⟨S80x16x128, .f32⟩
  | .local _ .vmem, ⟨2, _⟩ => ⟨S9x256x1792, .fp8e4m3⟩
  | .local _ .vmem, ⟨3, _⟩ => ⟨S9x256x1792, .fp8e4m3⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S2x80x32x256, .bf16⟩
  | .local _ .vmem, ⟨9, _⟩ => ⟨S2x80x32x256, .bf16⟩
  | .local _ .vmem, ⟨10, _⟩ => ⟨S1280x1792, .fp8e4m3⟩
  | .local _ .vmem, ⟨11, _⟩ => ⟨S9x80x16x256, .f32⟩
  | _, _ => ⟨S2x1792x40x16, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![5], ![false]⟩

@[reducible] def k0_t1_loop : Scf.Loop 32 :=
  let c0_i32_87 : BitVec 32 := 0#32
  let c80_i32 : BitVec 32 := 80#32
  let v79 : BitVec 32 := Scalar.addi c0_i32_87 c80_i32
  let c1_i32 : BitVec 32 := 1#32
  ⟨c0_i32_87, v79, c1_i32⟩
def k0_off1 (k0_t1 : Fin k0_t1_loop.trips) (c_m1_i32_112 : BitVec 32) : Fin 4 → Nat :=
  let c0_114 : Index := 0#32
  let c79_i32 : BitVec 32 := 79#32
  let c0_i32_113 : BitVec 32 := 0#32
  let c0_i32_87 : BitVec 32 := 0#32
  let c1_i32 : BitVec 32 := 1#32
  let arg9 : BitVec 32 := Scf.iv c0_i32_87 c1_i32 k0_t1
  let v116 : BitVec 32 := Scalar.addi arg9 c_m1_i32_112
  let v117 : BitVec 32 := Scalar.maxsi c0_i32_113 v116
  let v118 : BitVec 32 := Scalar.minsi c79_i32 v117
  let v119 : Index := Scalar.indexCast v118
  let c0_115 : Index := 0#32
  let c0_116 : Index := 0#32
  ![0, v119.toNat, 0, 0]
def k0_off2 (k0_t1 : Fin k0_t1_loop.trips) (c_m1_i32_112 : BitVec 32) : Fin 3 → Nat :=
  let c79_i32 : BitVec 32 := 79#32
  let c0_i32_113 : BitVec 32 := 0#32
  let c0_i32_87 : BitVec 32 := 0#32
  let c1_i32 : BitVec 32 := 1#32
  let arg9 : BitVec 32 := Scf.iv c0_i32_87 c1_i32 k0_t1
  let v116 : BitVec 32 := Scalar.addi arg9 c_m1_i32_112
  let v117 : BitVec 32 := Scalar.maxsi c0_i32_113 v116
  let v118 : BitVec 32 := Scalar.minsi c79_i32 v117
  let v122 : Index := Scalar.indexCast v118
  let c0_117 : Index := 0#32
  let c0_118 : Index := 0#32
  ![v122.toNat, 0, 0]
def k0_off2_at (r : Fin 3) : BitVec 32 :=
  if r.val < 1 then
    4294967295#32
  else
    if r.val < 2 then
      0#32
    else
      1#32
def k0_off3 (k0_t1 : Fin k0_t1_loop.trips) : Fin 4 → Nat :=
  let c3_127 : Index := 3#32
  let c79_i32_126 : BitVec 32 := 79#32
  let c0_i32_125 : BitVec 32 := 0#32
  let c0_i32_87 : BitVec 32 := 0#32
  let c1_i32 : BitVec 32 := 1#32
  let arg9 : BitVec 32 := Scf.iv c0_i32_87 c1_i32 k0_t1
  let c0_i32_124 : BitVec 32 := 0#32
  let v135 : BitVec 32 := Scalar.addi arg9 c0_i32_124
  let v136 : BitVec 32 := Scalar.maxsi c0_i32_125 v135
  let v137 : BitVec 32 := Scalar.minsi c79_i32_126 v136
  let v138 : Index := Scalar.indexCast v137
  let c0_128 : Index := 0#32
  let c0_129 : Index := 0#32
  ![3, v138.toNat, 0, 0]
def k0_off4 (k0_t1 : Fin k0_t1_loop.trips) (c0_i32_136 : BitVec 32) : Fin 4 → Nat :=
  let c6_139 : Index := 6#32
  let c79_i32_138 : BitVec 32 := 79#32
  let c0_i32_137 : BitVec 32 := 0#32
  let c0_i32_87 : BitVec 32 := 0#32
  let c1_i32 : BitVec 32 := 1#32
  let arg9 : BitVec 32 := Scf.iv c0_i32_87 c1_i32 k0_t1
  let v153 : BitVec 32 := Scalar.addi arg9 c0_i32_136
  let v154 : BitVec 32 := Scalar.maxsi c0_i32_137 v153
  let v155 : BitVec 32 := Scalar.minsi c79_i32_138 v154
  let v156 : Index := Scalar.indexCast v155
  let c0_140 : Index := 0#32
  let c0_141 : Index := 0#32
  ![6, v156.toNat, 0, 0]
def k0_off5 (k0_t1 : Fin k0_t1_loop.trips) (c_m1_i32_148 : BitVec 32) : Fin 4 → Nat :=
  let c1_151 : Index := 1#32
  let c79_i32_150 : BitVec 32 := 79#32
  let c0_i32_149 : BitVec 32 := 0#32
  let c0_i32_87 : BitVec 32 := 0#32
  let c1_i32 : BitVec 32 := 1#32
  let arg9 : BitVec 32 := Scf.iv c0_i32_87 c1_i32 k0_t1
  let v171 : BitVec 32 := Scalar.addi arg9 c_m1_i32_148
  let v172 : BitVec 32 := Scalar.maxsi c0_i32_149 v171
  let v173 : BitVec 32 := Scalar.minsi c79_i32_150 v172
  let v174 : Index := Scalar.indexCast v173
  let c0_152 : Index := 0#32
  let c0_153 : Index := 0#32
  ![1, v174.toNat, 0, 0]
def k0_off6 (k0_t1 : Fin k0_t1_loop.trips) : Fin 4 → Nat :=
  let c4_164 : Index := 4#32
  let c79_i32_163 : BitVec 32 := 79#32
  let c0_i32_162 : BitVec 32 := 0#32
  let c0_i32_87 : BitVec 32 := 0#32
  let c1_i32 : BitVec 32 := 1#32
  let arg9 : BitVec 32 := Scf.iv c0_i32_87 c1_i32 k0_t1
  let c0_i32_161 : BitVec 32 := 0#32
  let v190 : BitVec 32 := Scalar.addi arg9 c0_i32_161
  let v191 : BitVec 32 := Scalar.maxsi c0_i32_162 v190
  let v192 : BitVec 32 := Scalar.minsi c79_i32_163 v191
  let v193 : Index := Scalar.indexCast v192
  let c0_165 : Index := 0#32
  let c0_166 : Index := 0#32
  ![4, v193.toNat, 0, 0]
def k0_off7 (k0_t1 : Fin k0_t1_loop.trips) (c0_i32_173 : BitVec 32) : Fin 4 → Nat :=
  let c7_176 : Index := 7#32
  let c79_i32_175 : BitVec 32 := 79#32
  let c0_i32_174 : BitVec 32 := 0#32
  let c0_i32_87 : BitVec 32 := 0#32
  let c1_i32 : BitVec 32 := 1#32
  let arg9 : BitVec 32 := Scf.iv c0_i32_87 c1_i32 k0_t1
  let v208 : BitVec 32 := Scalar.addi arg9 c0_i32_173
  let v209 : BitVec 32 := Scalar.maxsi c0_i32_174 v208
  let v210 : BitVec 32 := Scalar.minsi c79_i32_175 v209
  let v211 : Index := Scalar.indexCast v210
  let c0_177 : Index := 0#32
  let c0_178 : Index := 0#32
  ![7, v211.toNat, 0, 0]
def k0_off8 (k0_t1 : Fin k0_t1_loop.trips) (c_m1_i32_185 : BitVec 32) : Fin 4 → Nat :=
  let c2_188 : Index := 2#32
  let c79_i32_187 : BitVec 32 := 79#32
  let c0_i32_186 : BitVec 32 := 0#32
  let c0_i32_87 : BitVec 32 := 0#32
  let c1_i32 : BitVec 32 := 1#32
  let arg9 : BitVec 32 := Scf.iv c0_i32_87 c1_i32 k0_t1
  let v226 : BitVec 32 := Scalar.addi arg9 c_m1_i32_185
  let v227 : BitVec 32 := Scalar.maxsi c0_i32_186 v226
  let v228 : BitVec 32 := Scalar.minsi c79_i32_187 v227
  let v229 : Index := Scalar.indexCast v228
  let c0_189 : Index := 0#32
  let c0_190 : Index := 0#32
  ![2, v229.toNat, 0, 0]
def k0_off9 (k0_t1 : Fin k0_t1_loop.trips) : Fin 4 → Nat :=
  let c5_201 : Index := 5#32
  let c79_i32_200 : BitVec 32 := 79#32
  let c0_i32_199 : BitVec 32 := 0#32
  let c0_i32_87 : BitVec 32 := 0#32
  let c1_i32 : BitVec 32 := 1#32
  let arg9 : BitVec 32 := Scf.iv c0_i32_87 c1_i32 k0_t1
  let c0_i32_198 : BitVec 32 := 0#32
  let v245 : BitVec 32 := Scalar.addi arg9 c0_i32_198
  let v246 : BitVec 32 := Scalar.maxsi c0_i32_199 v245
  let v247 : BitVec 32 := Scalar.minsi c79_i32_200 v246
  let v248 : Index := Scalar.indexCast v247
  let c0_202 : Index := 0#32
  let c0_203 : Index := 0#32
  ![5, v248.toNat, 0, 0]
def k0_off10 (k0_t1 : Fin k0_t1_loop.trips) (c0_i32_210 : BitVec 32) : Fin 4 → Nat :=
  let c8_213 : Index := 8#32
  let c79_i32_212 : BitVec 32 := 79#32
  let c0_i32_211 : BitVec 32 := 0#32
  let c0_i32_87 : BitVec 32 := 0#32
  let c1_i32 : BitVec 32 := 1#32
  let arg9 : BitVec 32 := Scf.iv c0_i32_87 c1_i32 k0_t1
  let v263 : BitVec 32 := Scalar.addi arg9 c0_i32_210
  let v264 : BitVec 32 := Scalar.maxsi c0_i32_211 v263
  let v265 : BitVec 32 := Scalar.minsi c79_i32_212 v264
  let v266 : Index := Scalar.indexCast v265
  let c0_214 : Index := 0#32
  let c0_215 : Index := 0#32
  ![8, v266.toNat, 0, 0]
def k0_off11 (k0_t1 : Fin k0_t1_loop.trips) (c0_i32_341 : BitVec 32) : Fin 4 → Nat :=
  let c0_i32_87 : BitVec 32 := 0#32
  let c1_i32 : BitVec 32 := 1#32
  let arg9 : BitVec 32 := Scf.iv c0_i32_87 c1_i32 k0_t1
  let c0_i32_98 : BitVec 32 := 0#32
  let v86 : BitVec 1 := Scalar.cmpi .sgt arg9 c0_i32_98
  let v87 : BitVec 32 := Scalar.extui v86
  let c0_i32_99 : BitVec 32 := 0#32
  let v88 : BitVec 1 := Scalar.cmpi .slt arg9 c0_i32_99
  let v89 : BitVec 32 := Scalar.extui v88
  let v90 : BitVec 32 := Scalar.subi v87 v89
  let c40_i32 : BitVec 32 := 40#32
  let c0_i32_100 : BitVec 32 := 0#32
  let v91 : BitVec 1 := Scalar.cmpi .sgt c40_i32 c0_i32_100
  let v92 : BitVec 32 := Scalar.extui v91
  let c0_i32_101 : BitVec 32 := 0#32
  let v93 : BitVec 1 := Scalar.cmpi .slt c40_i32 c0_i32_101
  let v94 : BitVec 32 := Scalar.extui v93
  let v95 : BitVec 32 := Scalar.subi v92 v94
  let v96 : BitVec 1 := Scalar.cmpi .ne v90 v95
  let v97 : BitVec 32 := Scalar.remsi arg9 c40_i32
  let c0_i32_102 : BitVec 32 := 0#32
  let v98 : BitVec 1 := Scalar.cmpi .ne v97 c0_i32_102
  let v99 : BitVec 1 := Scalar.andi v96 v98
  let v85 : BitVec 32 := Scalar.divsi arg9 c40_i32
  let c1_i32_103 : BitVec 32 := 1#32
  let v100 : BitVec 32 := Scalar.subi v85 c1_i32_103
  let v101 : BitVec 32 := Scalar.select v99 v100 v85
  let v508 : Index := Scalar.indexCast v101
  let c2_i32 : BitVec 32 := 2#32
  let c40_i32_104 : BitVec 32 := 40#32
  let c0_i32_105 : BitVec 32 := 0#32
  let v102 : BitVec 1 := Scalar.cmpi .eq c40_i32_104 c0_i32_105
  let c1_i32_106 : BitVec 32 := 1#32
  let v103 : BitVec 32 := Scalar.select v102 c1_i32_106 c40_i32_104
  let v104 : BitVec 32 := Scalar.remsi arg9 v103
  let c0_i32_108 : BitVec 32 := 0#32
  let v106 : BitVec 1 := Scalar.cmpi .slt v104 c0_i32_108
  let c0_i32_109 : BitVec 32 := 0#32
  let v107 : BitVec 1 := Scalar.cmpi .slt v103 c0_i32_109
  let v108 : BitVec 1 := Scalar.xori v106 v107
  let c0_i32_107 : BitVec 32 := 0#32
  let v105 : BitVec 1 := Scalar.cmpi .ne v104 c0_i32_107
  let v109 : BitVec 1 := Scalar.andi v108 v105
  let v110 : BitVec 32 := Scalar.addi v104 v103
  let v111 : BitVec 32 := Scalar.select v109 v110 v104
  let v506 : BitVec 32 := Scalar.muli c2_i32 v111
  let v507 : BitVec 32 := Scalar.addi v506 c0_i32_341
  let v509 : Index := Scalar.indexCast v507
  let c0_342 : Index := 0#32
  let c0_343 : Index := 0#32
  ![v508.toNat, v509.toNat, 0, 0]
@[reducible] def k0_t2_loop : Scf.Loop 32 :=
  let c0_i32_94 : BitVec 32 := 0#32
  let c80_i32_95 : BitVec 32 := 80#32
  let v84 : BitVec 32 := Scalar.addi c0_i32_94 c80_i32_95
  let c1_i32_96 : BitVec 32 := 1#32
  ⟨c0_i32_94, v84, c1_i32_96⟩
def k0_off12 (k0_t2 : Fin k0_t2_loop.trips) (c_m1_i32_112 : BitVec 32) : Fin 4 → Nat :=
  let c0_114 : Index := 0#32
  let c79_i32 : BitVec 32 := 79#32
  let c0_i32_113 : BitVec 32 := 0#32
  let c0_i32_94 : BitVec 32 := 0#32
  let c1_i32_96 : BitVec 32 := 1#32
  let arg9 : BitVec 32 := Scf.iv c0_i32_94 c1_i32_96 k0_t2
  let v116 : BitVec 32 := Scalar.addi arg9 c_m1_i32_112
  let v117 : BitVec 32 := Scalar.maxsi c0_i32_113 v116
  let v118 : BitVec 32 := Scalar.minsi c79_i32 v117
  let v119 : Index := Scalar.indexCast v118
  let c0_115 : Index := 0#32
  let c128_116 : Index := 128#32
  ![0, v119.toNat, 0, 128]
def k0_off13 (k0_t2 : Fin k0_t2_loop.trips) (c_m1_i32_112 : BitVec 32) : Fin 3 → Nat :=
  let c79_i32 : BitVec 32 := 79#32
  let c0_i32_113 : BitVec 32 := 0#32
  let c0_i32_94 : BitVec 32 := 0#32
  let c1_i32_96 : BitVec 32 := 1#32
  let arg9 : BitVec 32 := Scf.iv c0_i32_94 c1_i32_96 k0_t2
  let v116 : BitVec 32 := Scalar.addi arg9 c_m1_i32_112
  let v117 : BitVec 32 := Scalar.maxsi c0_i32_113 v116
  let v118 : BitVec 32 := Scalar.minsi c79_i32 v117
  let v122 : Index := Scalar.indexCast v118
  let c0_117 : Index := 0#32
  let c0_118 : Index := 0#32
  ![v122.toNat, 0, 0]
def k0_off13_at (r : Fin 3) : BitVec 32 :=
  if r.val < 1 then
    4294967295#32
  else
    if r.val < 2 then
      0#32
    else
      1#32
def k0_off14 (k0_t2 : Fin k0_t2_loop.trips) : Fin 4 → Nat :=
  let c3_127 : Index := 3#32
  let c79_i32_126 : BitVec 32 := 79#32
  let c0_i32_125 : BitVec 32 := 0#32
  let c0_i32_94 : BitVec 32 := 0#32
  let c1_i32_96 : BitVec 32 := 1#32
  let arg9 : BitVec 32 := Scf.iv c0_i32_94 c1_i32_96 k0_t2
  let c0_i32_124 : BitVec 32 := 0#32
  let v135 : BitVec 32 := Scalar.addi arg9 c0_i32_124
  let v136 : BitVec 32 := Scalar.maxsi c0_i32_125 v135
  let v137 : BitVec 32 := Scalar.minsi c79_i32_126 v136
  let v138 : Index := Scalar.indexCast v137
  let c0_128 : Index := 0#32
  let c128_129 : Index := 128#32
  ![3, v138.toNat, 0, 128]
def k0_off15 (k0_t2 : Fin k0_t2_loop.trips) (c0_i32_136 : BitVec 32) : Fin 4 → Nat :=
  let c6_139 : Index := 6#32
  let c79_i32_138 : BitVec 32 := 79#32
  let c0_i32_137 : BitVec 32 := 0#32
  let c0_i32_94 : BitVec 32 := 0#32
  let c1_i32_96 : BitVec 32 := 1#32
  let arg9 : BitVec 32 := Scf.iv c0_i32_94 c1_i32_96 k0_t2
  let v153 : BitVec 32 := Scalar.addi arg9 c0_i32_136
  let v154 : BitVec 32 := Scalar.maxsi c0_i32_137 v153
  let v155 : BitVec 32 := Scalar.minsi c79_i32_138 v154
  let v156 : Index := Scalar.indexCast v155
  let c0_140 : Index := 0#32
  let c128_141 : Index := 128#32
  ![6, v156.toNat, 0, 128]
def k0_off16 (k0_t2 : Fin k0_t2_loop.trips) (c_m1_i32_148 : BitVec 32) : Fin 4 → Nat :=
  let c1_151 : Index := 1#32
  let c79_i32_150 : BitVec 32 := 79#32
  let c0_i32_149 : BitVec 32 := 0#32
  let c0_i32_94 : BitVec 32 := 0#32
  let c1_i32_96 : BitVec 32 := 1#32
  let arg9 : BitVec 32 := Scf.iv c0_i32_94 c1_i32_96 k0_t2
  let v171 : BitVec 32 := Scalar.addi arg9 c_m1_i32_148
  let v172 : BitVec 32 := Scalar.maxsi c0_i32_149 v171
  let v173 : BitVec 32 := Scalar.minsi c79_i32_150 v172
  let v174 : Index := Scalar.indexCast v173
  let c0_152 : Index := 0#32
  let c128_153 : Index := 128#32
  ![1, v174.toNat, 0, 128]
def k0_off17 (k0_t2 : Fin k0_t2_loop.trips) : Fin 4 → Nat :=
  let c4_164 : Index := 4#32
  let c79_i32_163 : BitVec 32 := 79#32
  let c0_i32_162 : BitVec 32 := 0#32
  let c0_i32_94 : BitVec 32 := 0#32
  let c1_i32_96 : BitVec 32 := 1#32
  let arg9 : BitVec 32 := Scf.iv c0_i32_94 c1_i32_96 k0_t2
  let c0_i32_161 : BitVec 32 := 0#32
  let v190 : BitVec 32 := Scalar.addi arg9 c0_i32_161
  let v191 : BitVec 32 := Scalar.maxsi c0_i32_162 v190
  let v192 : BitVec 32 := Scalar.minsi c79_i32_163 v191
  let v193 : Index := Scalar.indexCast v192
  let c0_165 : Index := 0#32
  let c128_166 : Index := 128#32
  ![4, v193.toNat, 0, 128]
def k0_off18 (k0_t2 : Fin k0_t2_loop.trips) (c0_i32_173 : BitVec 32) : Fin 4 → Nat :=
  let c7_176 : Index := 7#32
  let c79_i32_175 : BitVec 32 := 79#32
  let c0_i32_174 : BitVec 32 := 0#32
  let c0_i32_94 : BitVec 32 := 0#32
  let c1_i32_96 : BitVec 32 := 1#32
  let arg9 : BitVec 32 := Scf.iv c0_i32_94 c1_i32_96 k0_t2
  let v208 : BitVec 32 := Scalar.addi arg9 c0_i32_173
  let v209 : BitVec 32 := Scalar.maxsi c0_i32_174 v208
  let v210 : BitVec 32 := Scalar.minsi c79_i32_175 v209
  let v211 : Index := Scalar.indexCast v210
  let c0_177 : Index := 0#32
  let c128_178 : Index := 128#32
  ![7, v211.toNat, 0, 128]
def k0_off19 (k0_t2 : Fin k0_t2_loop.trips) (c_m1_i32_185 : BitVec 32) : Fin 4 → Nat :=
  let c2_188 : Index := 2#32
  let c79_i32_187 : BitVec 32 := 79#32
  let c0_i32_186 : BitVec 32 := 0#32
  let c0_i32_94 : BitVec 32 := 0#32
  let c1_i32_96 : BitVec 32 := 1#32
  let arg9 : BitVec 32 := Scf.iv c0_i32_94 c1_i32_96 k0_t2
  let v226 : BitVec 32 := Scalar.addi arg9 c_m1_i32_185
  let v227 : BitVec 32 := Scalar.maxsi c0_i32_186 v226
  let v228 : BitVec 32 := Scalar.minsi c79_i32_187 v227
  let v229 : Index := Scalar.indexCast v228
  let c0_189 : Index := 0#32
  let c128_190 : Index := 128#32
  ![2, v229.toNat, 0, 128]
def k0_off20 (k0_t2 : Fin k0_t2_loop.trips) : Fin 4 → Nat :=
  let c5_201 : Index := 5#32
  let c79_i32_200 : BitVec 32 := 79#32
  let c0_i32_199 : BitVec 32 := 0#32
  let c0_i32_94 : BitVec 32 := 0#32
  let c1_i32_96 : BitVec 32 := 1#32
  let arg9 : BitVec 32 := Scf.iv c0_i32_94 c1_i32_96 k0_t2
  let c0_i32_198 : BitVec 32 := 0#32
  let v245 : BitVec 32 := Scalar.addi arg9 c0_i32_198
  let v246 : BitVec 32 := Scalar.maxsi c0_i32_199 v245
  let v247 : BitVec 32 := Scalar.minsi c79_i32_200 v246
  let v248 : Index := Scalar.indexCast v247
  let c0_202 : Index := 0#32
  let c128_203 : Index := 128#32
  ![5, v248.toNat, 0, 128]
def k0_off21 (k0_t2 : Fin k0_t2_loop.trips) (c0_i32_210 : BitVec 32) : Fin 4 → Nat :=
  let c8_213 : Index := 8#32
  let c79_i32_212 : BitVec 32 := 79#32
  let c0_i32_211 : BitVec 32 := 0#32
  let c0_i32_94 : BitVec 32 := 0#32
  let c1_i32_96 : BitVec 32 := 1#32
  let arg9 : BitVec 32 := Scf.iv c0_i32_94 c1_i32_96 k0_t2
  let v263 : BitVec 32 := Scalar.addi arg9 c0_i32_210
  let v264 : BitVec 32 := Scalar.maxsi c0_i32_211 v263
  let v265 : BitVec 32 := Scalar.minsi c79_i32_212 v264
  let v266 : Index := Scalar.indexCast v265
  let c0_214 : Index := 0#32
  let c128_215 : Index := 128#32
  ![8, v266.toNat, 0, 128]
def k0_off22 (k0_t2 : Fin k0_t2_loop.trips) (c0_i32_341 : BitVec 32) : Fin 4 → Nat :=
  let c0_i32_94 : BitVec 32 := 0#32
  let c1_i32_96 : BitVec 32 := 1#32
  let arg9 : BitVec 32 := Scf.iv c0_i32_94 c1_i32_96 k0_t2
  let c0_i32_98 : BitVec 32 := 0#32
  let v86 : BitVec 1 := Scalar.cmpi .sgt arg9 c0_i32_98
  let v87 : BitVec 32 := Scalar.extui v86
  let c0_i32_99 : BitVec 32 := 0#32
  let v88 : BitVec 1 := Scalar.cmpi .slt arg9 c0_i32_99
  let v89 : BitVec 32 := Scalar.extui v88
  let v90 : BitVec 32 := Scalar.subi v87 v89
  let c40_i32 : BitVec 32 := 40#32
  let c0_i32_100 : BitVec 32 := 0#32
  let v91 : BitVec 1 := Scalar.cmpi .sgt c40_i32 c0_i32_100
  let v92 : BitVec 32 := Scalar.extui v91
  let c0_i32_101 : BitVec 32 := 0#32
  let v93 : BitVec 1 := Scalar.cmpi .slt c40_i32 c0_i32_101
  let v94 : BitVec 32 := Scalar.extui v93
  let v95 : BitVec 32 := Scalar.subi v92 v94
  let v96 : BitVec 1 := Scalar.cmpi .ne v90 v95
  let v97 : BitVec 32 := Scalar.remsi arg9 c40_i32
  let c0_i32_102 : BitVec 32 := 0#32
  let v98 : BitVec 1 := Scalar.cmpi .ne v97 c0_i32_102
  let v99 : BitVec 1 := Scalar.andi v96 v98
  let v85 : BitVec 32 := Scalar.divsi arg9 c40_i32
  let c1_i32_103 : BitVec 32 := 1#32
  let v100 : BitVec 32 := Scalar.subi v85 c1_i32_103
  let v101 : BitVec 32 := Scalar.select v99 v100 v85
  let v508 : Index := Scalar.indexCast v101
  let c2_i32 : BitVec 32 := 2#32
  let c40_i32_104 : BitVec 32 := 40#32
  let c0_i32_105 : BitVec 32 := 0#32
  let v102 : BitVec 1 := Scalar.cmpi .eq c40_i32_104 c0_i32_105
  let c1_i32_106 : BitVec 32 := 1#32
  let v103 : BitVec 32 := Scalar.select v102 c1_i32_106 c40_i32_104
  let v104 : BitVec 32 := Scalar.remsi arg9 v103
  let c0_i32_108 : BitVec 32 := 0#32
  let v106 : BitVec 1 := Scalar.cmpi .slt v104 c0_i32_108
  let c0_i32_109 : BitVec 32 := 0#32
  let v107 : BitVec 1 := Scalar.cmpi .slt v103 c0_i32_109
  let v108 : BitVec 1 := Scalar.xori v106 v107
  let c0_i32_107 : BitVec 32 := 0#32
  let v105 : BitVec 1 := Scalar.cmpi .ne v104 c0_i32_107
  let v109 : BitVec 1 := Scalar.andi v108 v105
  let v110 : BitVec 32 := Scalar.addi v104 v103
  let v111 : BitVec 32 := Scalar.select v109 v110 v104
  let v506 : BitVec 32 := Scalar.muli c2_i32 v111
  let v507 : BitVec 32 := Scalar.addi v506 c0_i32_341
  let v509 : Index := Scalar.indexCast v507
  let c0_342 : Index := 0#32
  let c128_343 : Index := 128#32
  ![v508.toNat, v509.toNat, 0, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 1 → Memref sig .tc .vmem S80x16x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S80x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9x256x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x80x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S2x1792x40x16 : Shape := ⟨4, ![2, 1792, 40, 16]⟩
abbrev S2x40x16 : Shape := ⟨3, ![2, 40, 16]⟩
abbrev S1280x1792x3x3 : Shape := ⟨4, ![1280, 1792, 3, 3]⟩
abbrev S1280 : Shape := ⟨1, ![1280]⟩
abbrev S2x1x40x16 : Shape := ⟨4, ![2, 1, 40, 16]⟩
abbrev S2x1792x40x2x16 : Shape := ⟨5, ![2, 1792, 40, 2, 16]⟩
abbrev S2x1792x80x16 : Shape := ⟨4, ![2, 1792, 80, 16]⟩
abbrev S2x1792x80x16x2 : Shape := ⟨5, ![2, 1792, 80, 16, 2]⟩
abbrev S2x1792x80x32 : Shape := ⟨4, ![2, 1792, 80, 32]⟩
abbrev S_ : Shape := ⟨0, ![]⟩
abbrev S2x1792x82x34 : Shape := ⟨4, ![2, 1792, 82, 34]⟩
abbrev S2x1792x1x80x32 : Shape := ⟨5, ![2, 1792, 1, 80, 32]⟩
abbrev S2x1792x9x80x32 : Shape := ⟨5, ![2, 1792, 9, 80, 32]⟩
abbrev S1280x1792x9 : Shape := ⟨3, ![1280, 1792, 9]⟩
abbrev S2x80x32x1280 : Shape := ⟨4, ![2, 80, 32, 1280]⟩
abbrev S2x1280x80x32 : Shape := ⟨4, ![2, 1280, 80, 32]⟩
abbrev S1x1280x1x1 : Shape := ⟨4, ![1, 1280, 1, 1]⟩

abbrev nBuf : Space → Nat
  | .hbm => 47
  | .vmem => 4
  | .smem => 0
  | _ => 0

abbrev bufTy : (tb : Table) → Fin (tcTables nBuf tb) → BufTy
  | .hbm, ⟨0, _⟩ => ⟨S2x1792x40x16, .fp8e4m3⟩
  | .hbm, ⟨1, _⟩ => ⟨S2x40x16, .f32⟩
  | .hbm, ⟨2, _⟩ => ⟨S1280x1792x3x3, .fp8e4m3⟩
  | .hbm, ⟨3, _⟩ => ⟨S1280, .f32⟩
  | .hbm, ⟨4, _⟩ => ⟨S1280, .f32⟩
  | .hbm, ⟨5, _⟩ => ⟨S2x1792x40x16, .bf16⟩
  | .hbm, ⟨6, _⟩ => ⟨S1280x1792x3x3, .bf16⟩
  | .hbm, ⟨7, _⟩ => ⟨S2x1x40x16, .f32⟩
  | .hbm, ⟨8, _⟩ => ⟨S2x1x40x16, .bf16⟩
  | .hbm, ⟨9, _⟩ => ⟨S2x1792x40x16, .bf16⟩
  | .hbm, ⟨10, _⟩ => ⟨S2x1792x40x16, .bf16⟩
  | .hbm, ⟨11, _⟩ => ⟨S2x1792x40x2x16, .bf16⟩
  | .hbm, ⟨12, _⟩ => ⟨S2x1792x80x16, .bf16⟩
  | .hbm, ⟨13, _⟩ => ⟨S2x1792x80x16x2, .bf16⟩
  | .hbm, ⟨14, _⟩ => ⟨S2x1792x80x32, .bf16⟩
  | .hbm, ⟨15, _⟩ => ⟨S_, .i32⟩
  | .hbm, ⟨16, _⟩ => ⟨S_, .bf16⟩
  | .hbm, ⟨17, _⟩ => ⟨S2x1792x82x34, .bf16⟩
  | .hbm, ⟨18, _⟩ => ⟨S2x1792x80x32, .bf16⟩
  | .hbm, ⟨19, _⟩ => ⟨S2x1792x80x32, .bf16⟩
  | .hbm, ⟨20, _⟩ => ⟨S2x1792x80x32, .bf16⟩
  | .hbm, ⟨21, _⟩ => ⟨S2x1792x80x32, .bf16⟩
  | .hbm, ⟨22, _⟩ => ⟨S2x1792x80x32, .bf16⟩
  | .hbm, ⟨23, _⟩ => ⟨S2x1792x80x32, .bf16⟩
  | .hbm, ⟨24, _⟩ => ⟨S2x1792x80x32, .bf16⟩
  | .hbm, ⟨25, _⟩ => ⟨S2x1792x80x32, .bf16⟩
  | .hbm, ⟨26, _⟩ => ⟨S2x1792x80x32, .bf16⟩
  | .hbm, ⟨27, _⟩ => ⟨S2x1792x1x80x32, .bf16⟩
  | .hbm, ⟨28, _⟩ => ⟨S2x1792x1x80x32, .bf16⟩
  | .hbm, ⟨29, _⟩ => ⟨S2x1792x1x80x32, .bf16⟩
  | .hbm, ⟨30, _⟩ => ⟨S2x1792x1x80x32, .bf16⟩
  | .hbm, ⟨31, _⟩ => ⟨S2x1792x1x80x32, .bf16⟩
  | .hbm, ⟨32, _⟩ => ⟨S2x1792x1x80x32, .bf16⟩
  | .hbm, ⟨33, _⟩ => ⟨S2x1792x1x80x32, .bf16⟩
  | .hbm, ⟨34, _⟩ => ⟨S2x1792x1x80x32, .bf16⟩
  | .hbm, ⟨35, _⟩ => ⟨S2x1792x1x80x32, .bf16⟩
  | .hbm, ⟨36, _⟩ => ⟨S2x1792x9x80x32, .bf16⟩
  | .hbm, ⟨37, _⟩ => ⟨S1280x1792x9, .bf16⟩
  | .hbm, ⟨38, _⟩ => ⟨S2x80x32x1280, .f32⟩
  | .hbm, ⟨39, _⟩ => ⟨S2x1280x80x32, .f32⟩
  | .hbm, ⟨40, _⟩ => ⟨S1x1280x1x1, .f32⟩
  | .hbm, ⟨41, _⟩ => ⟨S2x1280x80x32, .f32⟩
  | .hbm, ⟨42, _⟩ => ⟨S2x1280x80x32, .f32⟩
  | .hbm, ⟨43, _⟩ => ⟨S1x1280x1x1, .f32⟩
  | .hbm, ⟨44, _⟩ => ⟨S2x1280x80x32, .f32⟩
  | .hbm, ⟨45, _⟩ => ⟨S2x1280x80x32, .f32⟩
  | .hbm, ⟨46, _⟩ => ⟨S2x1280x80x32, .bf16⟩
  | .local _ .vmem, ⟨0, _⟩ => ⟨S2x1792x40x16, .fp8e4m3⟩
  | .local _ .vmem, ⟨1, _⟩ => ⟨S1280x1792x3x3, .fp8e4m3⟩
  | .local _ .vmem, ⟨2, _⟩ => ⟨S2x1792x40x16, .bf16⟩
  | .local _ .vmem, ⟨3, _⟩ => ⟨S1280x1792x3x3, .bf16⟩
  | _, _ => ⟨S2x1792x40x16, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1792x40x16 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1792x3x3 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1792x40x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1792x3x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.K.Run.lean ====
/- The kernel's body at any grid point, run over whole staging memrefs: the inputs' buffers are left as they were, and the
   output's block and both scratch buffers hold something afterwards. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The condition under which the body fills the scratch `arg7`, from the grid coordinates. -/
abbrev cond0 (i : grid0.Coords) : Prop := (Scalar.cmpi .ne (Scalar.extui (Scalar.cmpi .eq (BitVec.ofNat 32 (i 0).val) 0#32)) 0#32) = 1#1

-- (the run is long, and needs more than the default budget)
set_option maxHeartbeats 1216000 in
/-- The body at the first grid point, which fills the scratch `arg7`. -/
theorem run_A (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc : cond0 i)
    (x0 : Vec F S80x16x1792 .fp8e4m3) (x1 : Vec F S80x16x128 .f32) (x2 : Vec F S9x256x1792 .fp8e4m3) (x3 : Vec F S1x1x256 .f32) (x4 : Vec F S1x1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [HS0]
  · iexists _, _; isplitr; swap; · iexact HS0
    ipureintro; rfl
  iexists _, _; isplitr; swap; · iexact HS1
  ipureintro; rfl

-- (the run is long, and needs more than the default budget)
set_option maxHeartbeats 1000000 in
/-- The body at a later grid point, which reads `arg7` as it finds it. -/
theorem run_B (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc : ¬cond0 i)
    (x0 : Vec F S80x16x1792 .fp8e4m3) (x1 : Vec F S80x16x128 .f32) (x2 : Vec F S9x256x1792 .fp8e4m3) (x3 : Vec F S1x1x256 .f32) (x4 : Vec F S1x1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _, _; isplitr; swap; · iexact H5
    ipureintro; rfl
  isplitl [HS0]
  · iexists _, _; isplitr; swap; · iexact HS0
    ipureintro; rfl
  iexists _, _; isplitr; swap; · iexact HS1
  ipureintro; rfl

/-- The body at any grid point. -/
theorem run (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole)
    (x0 : Vec F S80x16x1792 .fp8e4m3) (x1 : Vec F S80x16x128 .f32) (x2 : Vec F S9x256x1792 .fp8e4m3) (x3 : Vec F S1x1x256 .f32) (x4 : Vec F S1x1x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  by_cases hc : cond0 i
  · exact run_A c i arg1 harg1 arg2 harg2 arg3 harg3 arg4 harg4 arg5 harg5 arg6 harg6 arg7 harg7 arg8 harg8 hc x0 x1 x2 x3 x4 E K
  · exact run_B c i arg1 harg1 arg2 harg2 arg3 harg3 arg4 harg4 arg5 harg5 arg6 harg6 arg7 harg7 arg8 harg8 hc x0 x1 x2 x3 x4 E K

end Cert.Kernel.Hand

end
-- ==== Proof.K.Frame.lean ====
/- The kernel around its one pipelined region: the body's obligation at every grid point, the run, and the frame. Nothing
   is stated here of what the output and the scratch buffers hold. -/
module

public import proofs.«01_k».proof.Proof.K.Run
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffer that the line after the region writes: it is computed from the output, of which nothing is stated. -/
def T0 : Finset (Ref sig .tc) := {main_v11}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run that leaves every staged input as it was, and every other buffer but `T0`, leaves the arguments as they were. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-- Each window's current staging memref at point `t`, spelled as the pipeline passes it (`bodyAt0`), and its wholeness. -/
abbrev ms0_0 (t : Fin cfg0.N) : Memref sig .tc .vmem S80x16x1792 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x256x1792 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x80x32x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1280x1792 .fp8e4m3 := Memref.whole cc0_scratch0
abbrev scM0_1 : Memref sig .tc .vmem S9x80x16x256 .f32 := Memref.whole cc0_scratch1
/-- The invariant of the region: both scratch buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The output window, of which nothing is stated. -/
def forgets0 : Fin 6 → Bool := fun w => w.val == 5

/-- What the region keeps: the arrays as it finds them, each input's buffer at its block, the output at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

/-- The body at any point, by whether it is the first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = Pipeline.ΦA spec0 c from rfl, show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run c (grid0.coords t) _ (hs0_0 t) _ (hs0_1 t) _ (hs0_2 t) _ (hs0_3 t) _ (hs0_4 t) _ (hs0_5 t) _ (Memref.isWhole_whole _) _ (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run: the arguments' arrays end as they were, and every semaphore counter is zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  unchanged_of m ρ (fun c => (dats m 0 c).toRForget forgets0) (A_eq m) (run_main m ρ)

/-- The frame: every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KI.Kit.lean ====
/- The names the runs of the idealized kernel body are stated over: its branch condition in closed form, its staging
   and scratch memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S80x16x1792 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x256x1792 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x80x32x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1280x1792 .fp8e4m3 := Memref.whole cc0_scratch0
abbrev scM0_1 : Memref sig .tc .vmem S9x80x16x256 .f32 := Memref.whole cc0_scratch1
/-- The scratch `arg7` the kernel carries between points, as a view: what it holds is stated through it. -/
abbrev VS0_0 : View sig .tc .vmem S1280x1792 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/- The idealized kernel's body at the first grid point(s): its run over whole staging memrefs. -/
module

public import proofs.«01_k».proof.Proof.KI.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long, and needs more than the default budget)
set_option maxHeartbeats 1216000 in
/-- The body at the grid's first point, which fills the scratch `arg7`: what it stores, as pieces, last first — into the
    output block by the loop over the low lanes, by the loop over the high lanes, and into `arg7` — with its triple. -/
noncomputable def kernelRun0_A (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : cond0_0 i)
    (x0 : Vec F S80x16x1792 .fp8e4m3) (x1 : Vec F S80x16x128 .f32) (x2 : Vec F S9x256x1792 .fp8e4m3) (x3 : Vec F S1x1x256 .f32) (x4 : Vec F S1x1x256 .f32) :
    { L : List (View.Piece (Elt F) S2x80x32x256 .bf16) × List (View.Piece (Elt F) S1280x1792 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2) ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨(?_, ?_), fun E K => ?run⟩
  case run =>
    simp only [cc0__body_eq_skeleton]; unfold cc0__body_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]; · iexists _; iexact HS0
    iexists _, _; isplitr; swap; · iexact HS1
    ipureintro; rfl

end Cert.KernelIdeal.Hand

end
-- ==== Proof.KI.RunB.lean ====
/- The idealized kernel's body at the later grid point(s): its run over whole staging memrefs. -/
module

public import proofs.«01_k».proof.Proof.KI.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run is long, and needs more than the default budget)
set_option maxHeartbeats 1000000 in
/-- The body at a later point, which reads the scratch `arg7` at what the first point left: what it stores into the
    output block by the loop over the low lanes and by the loop over the high lanes, last first, with its triple. -/
noncomputable def kernelRun0_B (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : ¬cond0_0 i)
    (x0 : Vec F S80x16x1792 .fp8e4m3) (x1 : Vec F S80x16x128 .f32) (x2 : Vec F S9x256x1792 .fp8e4m3) (x3 : Vec F S1x1x256 .f32) (x4 : Vec F S1x1x256 .f32) (xs0 : Vec F S1280x1792 .fp8e4m3) :
    { L : List (View.Piece (Elt F) S2x80x32x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L) ∗ owns (c : Thread nD τ) arg7 fullShare xs0 ∗ (∃ d, owns (c : Thread nD τ) arg8 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; iexact H5
    isplitl [HS0]
    · iexists _; isplitr; · ipureintro; exact harg7.read_unread _
      iexact HS0
    iexists _, _; isplitr; swap; · iexact HS1
    ipureintro; rfl

end Cert.KernelIdeal.Hand

end
-- ==== Proof.KI.Pieces.lean ====
/- The nine products and the kept copy of the activations, read at an index. -/
module

public import proofs.«01_k».proof.Proof.KI.RunB
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Cert.KernelIdeal Cert.KernelIdeal.Gen

/-- The activations with their first two axes flattened, row `16 b + w`. -/
def XS (x0 : Vec Ideal S80x16x1792 .fp8e4m3) : Vec Ideal S1280x1792 .fp8e4m3 :=
  fun y => x0 (ix3 ⟨(y 0).val / 16, by have := (y 0).isLt; change (y 0).val < 1280 at this; omega⟩ ⟨(y 0).val % 16, by omega⟩ (y 1))

/-- The nine products of the activations with one tap's weights each. -/
def QV (x2 : Vec Ideal S9x256x1792 .fp8e4m3) (xs : Vec Ideal S1280x1792 .fp8e4m3) : S9x80x16x256.Idx → EReal :=
  fun y => ∑ c : Fin 1792, xs (ix2 ⟨(y 1).val * 16 + (y 2).val, by
    have h1 := (y 1).isLt; have h2 := (y 2).isLt
    change (y 1).val < 80 at h1; change (y 2).val < 16 at h2; omega⟩ c) * x2 (ix3 (y 0) (y 3) c)

theorem mm81 (v3 : Vec Ideal S1280x1792 .fp8e4m3) (v4 : Vec Ideal S1x256x1792 .fp8e4m3) (b : Fin 80) (w : Fin 16) (o : Fin 256) :
    k0_pay81 v3 v4 (ix4 0 b w o) = ∑ c : Fin 1792, v3 (ix2 ⟨b.val * 16 + w.val, by omega⟩ c) * v4 (ix3 0 o c) := by
  pointwise [k0_pay81]

theorem mm82 (v3 : Vec Ideal S1280x1792 .fp8e4m3) (v4 : Vec Ideal S1x256x1792 .fp8e4m3) (b : Fin 80) (w : Fin 16) (o : Fin 256) :
    k0_pay82 v3 v4 (ix4 0 b w o) = ∑ c : Fin 1792, v3 (ix2 ⟨b.val * 16 + w.val, by omega⟩ c) * v4 (ix3 0 o c) := by
  pointwise [k0_pay82]

theorem mm84 (v3 : Vec Ideal S1280x1792 .fp8e4m3) (v4 : Vec Ideal S1x256x1792 .fp8e4m3) (b : Fin 80) (w : Fin 16) (o : Fin 256) :
    k0_pay84 (k0_pay83 v3 v4) (ix4 0 b w o) = ∑ c : Fin 1792, v3 (ix2 ⟨b.val * 16 + w.val, by omega⟩ c) * v4 (ix3 0 o c) := by
  pointwise [k0_pay84, k0_pay83]

theorem mm85 (v3 : Vec Ideal S1280x1792 .fp8e4m3) (v4 : Vec Ideal S1x256x1792 .fp8e4m3) (b : Fin 80) (w : Fin 16) (o : Fin 256) :
    k0_pay85 v3 v4 (ix4 0 b w o) = ∑ c : Fin 1792, v3 (ix2 ⟨b.val * 16 + w.val, by omega⟩ c) * v4 (ix3 0 o c) := by
  pointwise [k0_pay85]

theorem mm86 (v3 : Vec Ideal S1280x1792 .fp8e4m3) (v4 : Vec Ideal S1x256x1792 .fp8e4m3) (b : Fin 80) (w : Fin 16) (o : Fin 256) :
    k0_pay86 v3 v4 (ix4 0 b w o) = ∑ c : Fin 1792, v3 (ix2 ⟨b.val * 16 + w.val, by omega⟩ c) * v4 (ix3 0 o c) := by
  pointwise [k0_pay86]

theorem mm87 (v3 : Vec Ideal S1280x1792 .fp8e4m3) (v4 : Vec Ideal S1x256x1792 .fp8e4m3) (b : Fin 80) (w : Fin 16) (o : Fin 256) :
    k0_pay87 v3 v4 (ix4 0 b w o) = ∑ c : Fin 1792, v3 (ix2 ⟨b.val * 16 + w.val, by omega⟩ c) * v4 (ix3 0 o c) := by
  pointwise [k0_pay87]

theorem mm88 (v3 : Vec Ideal S1280x1792 .fp8e4m3) (v4 : Vec Ideal S1x256x1792 .fp8e4m3) (b : Fin 80) (w : Fin 16) (o : Fin 256) :
    k0_pay88 v3 v4 (ix4 0 b w o) = ∑ c : Fin 1792, v3 (ix2 ⟨b.val * 16 + w.val, by omega⟩ c) * v4 (ix3 0 o c) := by
  pointwise [k0_pay88]

theorem mm89 (v3 : Vec Ideal S1280x1792 .fp8e4m3) (v4 : Vec Ideal S1x256x1792 .fp8e4m3) (b : Fin 80) (w : Fin 16) (o : Fin 256) :
    k0_pay89 v3 v4 (ix4 0 b w o) = ∑ c : Fin 1792, v3 (ix2 ⟨b.val * 16 + w.val, by omega⟩ c) * v4 (ix3 0 o c) := by
  pointwise [k0_pay89]

theorem mm90 (v3 : Vec Ideal S1280x1792 .fp8e4m3) (v4 : Vec Ideal S1x256x1792 .fp8e4m3) (b : Fin 80) (w : Fin 16) (o : Fin 256) :
    k0_pay90 v3 v4 (ix4 0 b w o) = ∑ c : Fin 1792, v3 (ix2 ⟨b.val * 16 + w.val, by omega⟩ c) * v4 (ix3 0 o c) := by
  pointwise [k0_pay90]

/-- One tap's weights, loaded as a block. -/
theorem ldW (X : Vec Ideal S9x256x1792 .fp8e4m3) (t : ℕ) (ht : t < 9) (inb : ∀ a, (![t, 0, 0] : Fin 3 → ℕ) a + S1x256x1792.size a ≤ S9x256x1792.size a)
    (o : Fin 256) (c : Fin 1792) :
    View.ld X (Rect.unit (s := S9x256x1792) ![t, 0, 0] S1x256x1792.size inb) (ix3 0 o c) = X (ix3 ⟨t, ht⟩ o c) := by
  refine View.ld_unit_apply_of X _ _ _ _ _ fun a => ?_
  fin_cases a <;> simp

theorem ldX (X : Vec Ideal S80x16x1792 .fp8e4m3) (n : ℕ) (hn : n + 2 ≤ 80) (inb : ∀ a, (![n, 0, 0] : Fin 3 → ℕ) a + S2x16x1792.size a ≤ S80x16x1792.size a)
    (u : Fin 2) (w : Fin 16) (c : Fin 1792) :
    View.ld X (Rect.unit (s := S80x16x1792) ![n, 0, 0] S2x16x1792.size inb) (ix3 u w c) = X (ix3 ⟨n + u.val, by omega⟩ w c) := by
  refine View.ld_unit_apply_of X _ _ _ _ _ fun a => ?_
  fin_cases a <;> simp

theorem rows9 (v : Vec Ideal S2x16x1792 .fp8e4m3) (r : Fin 32) (c : Fin 1792) :
    k0_pay9 v (ix2 r c) = v (ix3 ⟨r.val / 16, by omega⟩ ⟨r.val % 16, by omega⟩ c) := by
  pointwise [k0_pay9]

theorem readW (arg3 : Memref sig .tc .vmem S9x256x1792 .fp8e4m3) (harg3 : arg3.IsWhole) (x2 : Vec Ideal S9x256x1792 .fp8e4m3)
    (t : ℕ) (ht : t < 9) (inb : ∀ a, (![t, 0, 0] : Fin 3 → ℕ) a + S1x256x1792.size a ≤ S9x256x1792.size a) (o : Fin 256) (c : Fin 1792) :
    View.readAt (Elt Ideal) arg3.view (Rect.unit (s := S9x256x1792) ![t, 0, 0] S1x256x1792.size inb).toLoadRect (harg3.unread x2) (ix3 0 o c) = x2 (ix3 ⟨t, ht⟩ o c) := by
  rw [View.readAt_eq_ld, harg3.read_unread]
  exact ldW x2 t ht inb o c

theorem readX (arg1 : Memref sig .tc .vmem S80x16x1792 .fp8e4m3) (harg1 : arg1.IsWhole) (x0 : Vec Ideal S80x16x1792 .fp8e4m3)
    (n : ℕ) (hn : n + 2 ≤ 80) (inb : ∀ a, (![n, 0, 0] : Fin 3 → ℕ) a + S2x16x1792.size a ≤ S80x16x1792.size a)
    (r : Fin 32) (c : Fin 1792) :
    k0_pay9 (View.readAt (Elt Ideal) arg1.view (Rect.unit (s := S80x16x1792) ![n, 0, 0] S2x16x1792.size inb).toLoadRect (harg1.unread x0)) (ix2 r c)
      = x0 (ix3 ⟨n + r.val / 16, by omega⟩ ⟨r.val % 16, by omega⟩ c) := by
  rw [rows9, View.readAt_eq_ld, harg1.read_unread]
  exact ldX x0 n hn inb _ _ c

theorem XS_at (x0 : Vec Ideal S80x16x1792 .fp8e4m3) (n : ℕ) (hn : n + 2 ≤ 80) (y : S1280x1792.Idx) (x : S32x1792.Idx)
    (h0 : (y 0).val = 16 * n + (x 0).val) (h1 : (y 1).val = (x 1).val)
    {W : S32x1792.Idx → EReal}
    (hW : ∀ (r : Fin 32) (c : Fin 1792), W (ix2 r c) = x0 (ix3 ⟨n + r.val / 16, by omega⟩ ⟨r.val % 16, by omega⟩ c)) : W x = XS x0 y := by
  have hx : x = ix2 (x 0) (x 1) := (ix2_eta x).symm
  have l0 : (x 0).val < 32 := (x 0).isLt
  refine ((congrArg W hx).trans (hW (x 0) (x 1))).trans ?_
  unfold XS
  congr 1
  funext a
  fin_cases a
  · refine Fin.ext ?_
    show n + (x 0).val / 16 = (y 0).val / 16
    omega
  · refine Fin.ext ?_
    show (x 0).val % 16 = (y 0).val % 16
    omega
  · exact Fin.ext h1.symm

theorem QV_at (x2 : Vec Ideal S9x256x1792 .fp8e4m3) (xs : Vec Ideal S1280x1792 .fp8e4m3) (t : ℕ) (ht : t < 9) (y : S9x80x16x256.Idx)
    (x : S1x80x16x256.Idx) (h0 : (y 0).val = t) (h1 : (y 1).val = (x 1).val) (h2 : (y 2).val = (x 2).val) (h3 : (y 3).val = (x 3).val)
    {W : S1x80x16x256.Idx → EReal}
    (hW : ∀ (b : Fin 80) (w : Fin 16) (o : Fin 256), W (ix4 0 b w o)
      = ∑ c : Fin 1792, xs (ix2 ⟨b.val * 16 + w.val, by omega⟩ c) * x2 (ix3 ⟨t, ht⟩ o c)) : W x = QV x2 xs y := by
  have hx : x = ix4 0 (x 1) (x 2) (x 3) := by
    refine (ix4_eta x).symm.trans ?_
    congr 1
    exact Subsingleton.elim (α := Fin 1) _ _
  refine ((congrArg W hx).trans (hW (x 1) (x 2) (x 3))).trans ?_
  unfold QV
  refine Finset.sum_congr rfl fun c _ => ?_
  congr 2
  · congr 1
    refine Fin.ext ?_
    show (x 1).val * 16 + (x 2).val = (y 1).val * 16 + (y 2).val
    omega
  · have e0 : (⟨t, ht⟩ : Fin 9) = y 0 := Fin.ext h0.symm
    have e3 : x 3 = y 3 := Fin.ext h3.symm
    rw [e0, e3]

set_option maxHeartbeats 1000000 in
/-- The kept copy's forty pieces read as the flattened activations. -/
theorem canon40 (c : Dev nD) (arg1 : Memref sig .tc .vmem S80x16x1792 .fp8e4m3) (harg1 : arg1.IsWhole) (x0 : Vec Ideal S80x16x1792 .fp8e4m3) (y : S1280x1792.Idx) :
    View.canon (Val := Elt Ideal) (kernelRun0_A.sl.HS0_40 (F := Ideal) c arg1 harg1 x0) y = XS x0 y := by
  unfold kernelRun0_A.sl.HS0_40
  canon_tiles x h
  · exact XS_at x0 78 (by omega) y x (by omega) h1 fun r c => readX arg1 harg1 x0 78 (by omega) _ r c
  · exact XS_at x0 76 (by omega) y x (by omega) h1 fun r c => readX arg1 harg1 x0 76 (by omega) _ r c
  · exact XS_at x0 74 (by omega) y x (by omega) h1 fun r c => readX arg1 harg1 x0 74 (by omega) _ r c
  · exact XS_at x0 72 (by omega) y x (by omega) h1 fun r c => readX arg1 harg1 x0 72 (by omega) _ r c
  · exact XS_at x0 70 (by omega) y x (by omega) h1 fun r c => readX arg1 harg1 x0 70 (by omega) _ r c
  · exact XS_at x0 68 (by omega) y x (by omega) h1 fun r c => readX arg1 harg1 x0 68 (by omega) _ r c
  · exact XS_at x0 66 (by omega) y x (by omega) h1 fun r c => readX arg1 harg1 x0 66 (by omega) _ r c
  · exact XS_at x0 64 (by omega) y x (by omega) h1 fun r c => readX arg1 harg1 x0 64 (by omega) _ r c
  · exact XS_at x0 62 (by omega) y x (by omega) h1 fun r c => readX arg1 harg1 x0 62 (by omega) _ r c
  · exact XS_at x0 60 (by omega) y x (by omega) h1 fun r c => readX arg1 harg1 x0 60 (by omega) _ r c
  · exact XS_at x0 58 (by omega) y x (by omega) h1 fun r c => readX arg1 harg1 x0 58 (by omega) _ r c
  · exact XS_at x0 56 (by omega) y x (by omega) h1 fun r c => readX arg1 harg1 x0 56 (by omega) _ r c
  · exact XS_at x0 54 (by omega) y x (by omega) h1 fun r c => readX arg1 harg1 x0 54 (by omega) _ r c
  · exact XS_at x0 52 (by omega) y x (by omega) h1 fun r c => readX arg1 harg1 x0 52 (by omega) _ r c
  · exact XS_at x0 50 (by omega) y x (by omega) h1 fun r c => readX arg1 harg1 x0 50 (by omega) _ r c
  · exact XS_at x0 48 (by omega) y x (by omega) h1 fun r c => readX arg1 harg1 x0 48 (by omega) _ r c
  · exact XS_at x0 46 (by omega) y x (by omega) h1 fun r c => readX arg1 harg1 x0 46 (by omega) _ r c
  · exact XS_at x0 44 (by omega) y x (by omega) h1 fun r c => readX arg1 harg1 x0 44 (by omega) _ r c
  · exact XS_at x0 42 (by omega) y x (by omega) h1 fun r c => readX arg1 harg1 x0 42 (by omega) _ r c
  · exact XS_at x0 40 (by omega) y x (by omega) h1 fun r c => readX arg1 harg1 x0 40 (by omega) _ r c
  · exact XS_at x0 38 (by omega) y x (by omega) h1 fun r c => readX arg1 harg1 x0 38 (by omega) _ r c
  · exact XS_at x0 36 (by omega) y x (by omega) h1 fun r c => readX arg1 harg1 x0 36 (by omega) _ r c
  · exact XS_at x0 34 (by omega) y x (by omega) h1 fun r c => readX arg1 harg1 x0 34 (by omega) _ r c
  · exact XS_at x0 32 (by omega) y x (by omega) h1 fun r c => readX arg1 harg1 x0 32 (by omega) _ r c
  · exact XS_at x0 30 (by omega) y x (by omega) h1 fun r c => readX arg1 harg1 x0 30 (by omega) _ r c
  · exact XS_at x0 28 (by omega) y x (by omega) h1 fun r c => readX arg1 harg1 x0 28 (by omega) _ r c
  · exact XS_at x0 26 (by omega) y x (by omega) h1 fun r c => readX arg1 harg1 x0 26 (by omega) _ r c
  · exact XS_at x0 24 (by omega) y x (by omega) h1 fun r c => readX arg1 harg1 x0 24 (by omega) _ r c
  · exact XS_at x0 22 (by omega) y x (by omega) h1 fun r c => readX arg1 harg1 x0 22 (by omega) _ r c
  · exact XS_at x0 20 (by omega) y x (by omega) h1 fun r c => readX arg1 harg1 x0 20 (by omega) _ r c
  · exact XS_at x0 18 (by omega) y x (by omega) h1 fun r c => readX arg1 harg1 x0 18 (by omega) _ r c
  · exact XS_at x0 16 (by omega) y x (by omega) h1 fun r c => readX arg1 harg1 x0 16 (by omega) _ r c
  · exact XS_at x0 14 (by omega) y x (by omega) h1 fun r c => readX arg1 harg1 x0 14 (by omega) _ r c
  · exact XS_at x0 12 (by omega) y x (by omega) h1 fun r c => readX arg1 harg1 x0 12 (by omega) _ r c
  · exact XS_at x0 10 (by omega) y x (by omega) h1 fun r c => readX arg1 harg1 x0 10 (by omega) _ r c
  · exact XS_at x0 8 (by omega) y x (by omega) h1 fun r c => readX arg1 harg1 x0 8 (by omega) _ r c
  · exact XS_at x0 6 (by omega) y x (by omega) h1 fun r c => readX arg1 harg1 x0 6 (by omega) _ r c
  · exact XS_at x0 4 (by omega) y x (by omega) h1 fun r c => readX arg1 harg1 x0 4 (by omega) _ r c
  · exact XS_at x0 2 (by omega) y x (by omega) h1 fun r c => readX arg1 harg1 x0 2 (by omega) _ r c
  · exact XS_at x0 0 (by omega) y x (by omega) h1 fun r c => readX arg1 harg1 x0 0 (by omega) _ r c

theorem v3A (c : Dev nD) (arg1 : Memref sig .tc .vmem S80x16x1792 .fp8e4m3) (harg1 : arg1.IsWhole) (arg7 : Memref sig .tc .vmem S1280x1792 .fp8e4m3)
    (x0 : Vec Ideal S80x16x1792 .fp8e4m3) : kernelRun0_A.sl.v3 (F := Ideal) c arg1 harg1 arg7 x0 = XS x0 := by
  funext y
  unfold kernelRun0_A.sl.v3
  refine (congrFun (View.readCov_eq_canon' arg7.view _ _) y).trans ((canon40 c arg1 harg1 x0 _).trans (congrArg (XS x0) (funext fun a => Fin.ext ?_)))
  refine (Rect.idx_unit_val _ _ _ _ _).trans ?_
  fin_cases a <;> simp

set_option maxHeartbeats 1000000 in
/-- The nine products' pieces at the first grid point. -/
theorem canon9A (c : Dev nD) (arg1 : Memref sig .tc .vmem S80x16x1792 .fp8e4m3) (harg1 : arg1.IsWhole) (arg3 : Memref sig .tc .vmem S9x256x1792 .fp8e4m3) (harg3 : arg3.IsWhole) (arg7 : Memref sig .tc .vmem S1280x1792 .fp8e4m3)
    (x0 : Vec Ideal S80x16x1792 .fp8e4m3) (x2 : Vec Ideal S9x256x1792 .fp8e4m3) (y : S9x80x16x256.Idx) :
    View.canon (Val := Elt Ideal) (kernelRun0_A.sl.HS1_9 (F := Ideal) c arg1 harg1 arg3 harg3 arg7 x0 x2) y = QV x2 (XS x0) y := by
  unfold kernelRun0_A.sl.HS1_9
  canon_tiles x h
  · exact QV_at x2 (XS x0) 8 (by omega) y x (by omega) h1 h2 h3 fun b w o => by
      refine (mm90 _ _ b w o).trans (Finset.sum_congr rfl fun k _ => ?_)
      rw [readW arg3 harg3 x2 8 (by omega)]; rw [v3A]
  · exact QV_at x2 (XS x0) 7 (by omega) y x (by omega) h1 h2 h3 fun b w o => by
      refine (mm89 _ _ b w o).trans (Finset.sum_congr rfl fun k _ => ?_)
      rw [readW arg3 harg3 x2 7 (by omega)]; rw [v3A]
  · exact QV_at x2 (XS x0) 6 (by omega) y x (by omega) h1 h2 h3 fun b w o => by
      refine (mm88 _ _ b w o).trans (Finset.sum_congr rfl fun k _ => ?_)
      rw [readW arg3 harg3 x2 6 (by omega)]; rw [v3A]
  · exact QV_at x2 (XS x0) 5 (by omega) y x (by omega) h1 h2 h3 fun b w o => by
      refine (mm87 _ _ b w o).trans (Finset.sum_congr rfl fun k _ => ?_)
      rw [readW arg3 harg3 x2 5 (by omega)]; rw [v3A]
  · exact QV_at x2 (XS x0) 4 (by omega) y x (by omega) h1 h2 h3 fun b w o => by
      refine (mm86 _ _ b w o).trans (Finset.sum_congr rfl fun k _ => ?_)
      rw [readW arg3 harg3 x2 4 (by omega)]; rw [v3A]
  · exact QV_at x2 (XS x0) 3 (by omega) y x (by omega) h1 h2 h3 fun b w o => by
      refine (mm85 _ _ b w o).trans (Finset.sum_congr rfl fun k _ => ?_)
      rw [readW arg3 harg3 x2 3 (by omega)]; rw [v3A]
  · exact QV_at x2 (XS x0) 2 (by omega) y x (by omega) h1 h2 h3 fun b w o => by
      refine (mm84 _ _ b w o).trans (Finset.sum_congr rfl fun k _ => ?_)
      rw [readW arg3 harg3 x2 2 (by omega)]; rw [v3A]
  · exact QV_at x2 (XS x0) 1 (by omega) y x (by omega) h1 h2 h3 fun b w o => by
      refine (mm82 _ _ b w o).trans (Finset.sum_congr rfl fun k _ => ?_)
      rw [readW arg3 harg3 x2 1 (by omega)]; rw [v3A]
  · exact QV_at x2 (XS x0) 0 (by omega) y x (by omega) h1 h2 h3 fun b w o => by
      refine (mm81 _ _ b w o).trans (Finset.sum_congr rfl fun k _ => ?_)
      rw [readW arg3 harg3 x2 0 (by omega)]; rw [v3A]

theorem readK (arg7 : Memref sig .tc .vmem S1280x1792 .fp8e4m3) (harg7 : arg7.IsWhole) (xs0 : Vec Ideal S1280x1792 .fp8e4m3)
    (inb : ∀ a, (![0, 0] : Fin 2 → ℕ) a + S1280x1792.size a ≤ S1280x1792.size a) :
    View.readAt (Elt Ideal) arg7.view (Rect.unit (s := S1280x1792) ![0, 0] S1280x1792.size inb).toLoadRect (harg7.unread xs0) = xs0 := by
  rw [View.readAt_eq_ld, harg7.read_unread]
  funext y
  refine View.ld_unit_apply_of xs0 _ _ _ _ _ fun a => ?_
  fin_cases a <;> simp

set_option maxHeartbeats 1000000 in
/-- The nine products' pieces at the later grid points. -/
theorem canon9B (c : Dev nD) (arg3 : Memref sig .tc .vmem S9x256x1792 .fp8e4m3) (harg3 : arg3.IsWhole) (arg7 : Memref sig .tc .vmem S1280x1792 .fp8e4m3) (harg7 : arg7.IsWhole)
    (x2 : Vec Ideal S9x256x1792 .fp8e4m3) (xs0 : Vec Ideal S1280x1792 .fp8e4m3) (y : S9x80x16x256.Idx) :
    View.canon (Val := Elt Ideal) (kernelRun0_B.sl.HS1_9 (F := Ideal) c arg3 harg3 arg7 harg7 x2 xs0) y = QV x2 xs0 y := by
  unfold kernelRun0_B.sl.HS1_9
  canon_tiles x h
  · exact QV_at x2 xs0 8 (by omega) y x (by omega) h1 h2 h3 fun b w o => by
      refine (mm90 _ _ b w o).trans (Finset.sum_congr rfl fun k _ => ?_)
      rw [readW arg3 harg3 x2 8 (by omega)]; rw [readK]
  · exact QV_at x2 xs0 7 (by omega) y x (by omega) h1 h2 h3 fun b w o => by
      refine (mm89 _ _ b w o).trans (Finset.sum_congr rfl fun k _ => ?_)
      rw [readW arg3 harg3 x2 7 (by omega)]; rw [readK]
  · exact QV_at x2 xs0 6 (by omega) y x (by omega) h1 h2 h3 fun b w o => by
      refine (mm88 _ _ b w o).trans (Finset.sum_congr rfl fun k _ => ?_)
      rw [readW arg3 harg3 x2 6 (by omega)]; rw [readK]
  · exact QV_at x2 xs0 5 (by omega) y x (by omega) h1 h2 h3 fun b w o => by
      refine (mm87 _ _ b w o).trans (Finset.sum_congr rfl fun k _ => ?_)
      rw [readW arg3 harg3 x2 5 (by omega)]; rw [readK]
  · exact QV_at x2 xs0 4 (by omega) y x (by omega) h1 h2 h3 fun b w o => by
      refine (mm86 _ _ b w o).trans (Finset.sum_congr rfl fun k _ => ?_)
      rw [readW arg3 harg3 x2 4 (by omega)]; rw [readK]
  · exact QV_at x2 xs0 3 (by omega) y x (by omega) h1 h2 h3 fun b w o => by
      refine (mm85 _ _ b w o).trans (Finset.sum_congr rfl fun k _ => ?_)
      rw [readW arg3 harg3 x2 3 (by omega)]; rw [readK]
  · exact QV_at x2 xs0 2 (by omega) y x (by omega) h1 h2 h3 fun b w o => by
      refine (mm84 _ _ b w o).trans (Finset.sum_congr rfl fun k _ => ?_)
      rw [readW arg3 harg3 x2 2 (by omega)]; rw [readK]
  · exact QV_at x2 xs0 1 (by omega) y x (by omega) h1 h2 h3 fun b w o => by
      refine (mm82 _ _ b w o).trans (Finset.sum_congr rfl fun k _ => ?_)
      rw [readW arg3 harg3 x2 1 (by omega)]; rw [readK]
  · exact QV_at x2 xs0 0 (by omega) y x (by omega) h1 h2 h3 fun b w o => by
      refine (mm81 _ _ b w o).trans (Finset.sum_congr rfl fun k _ => ?_)
      rw [readW arg3 harg3 x2 0 (by omega)]; rw [readK]

end Cert.KernelIdeal.Hand
-- ==== Proof.KI.Rows.lean ====
module

public import proofs.«01_k».proof.Proof.KI.Kit
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Cert.KernelIdeal Cert.KernelIdeal.Gen

/-! One row of the output, as sums of taps.

The body's second and third loops run over the 80 rows `k` of the two images (`k / 40` the image, `k % 40` the
row), and write output rows `2k` and `2k + 1`. An output row `a` (0 or 1) at column `2w + p` takes, for the tap
`(dy, dx)`, the input row `k + (a + dy + 1) / 2 - 1` and the input column `w + (p + dx + 1) / 2 - 1`, where they
lie in the image, and nothing where they do not. -/

/-- One tap: the product with the weights of tap `t` at row `k + e - 1`, times the scale there, and nothing
outside the image. -/
def tap (q : S9x80x16x256.Idx → EReal) (s : S80x16x128.Idx → EReal) (lo : ℕ) (hlo : lo + 128 ≤ 256) (k : ℕ)
    (t : Fin 9) (e : ℕ) (w : Fin 16) (l : Fin 128) : EReal :=
  if 1 ≤ k % 40 + e ∧ k % 40 + e ≤ 40 then
    q (ix4 t (⟨min (k + e - 1) 79, by omega⟩ : Fin 80) w (⟨lo + l.val, by omega⟩ : Fin 256))
      * s (ix3 (⟨min (k + e - 1) 79, by omega⟩ : Fin 80) w l)
  else 0

/-- The three taps of one column of the kernel window, for output row `a`. -/
def col (q : S9x80x16x256.Idx → EReal) (s : S80x16x128.Idx → EReal) (lo : ℕ) (hlo : lo + 128 ≤ 256) (k : ℕ)
    (a : ℕ) (dx : Fin 3) (w : Fin 16) (l : Fin 128) : EReal :=
  tap q s lo hlo k (⟨dx.val, by omega⟩ : Fin 9) ((a + 0 + 1) / 2) w l
    + tap q s lo hlo k (⟨3 + dx.val, by omega⟩ : Fin 9) ((a + 1 + 1) / 2) w l
    + tap q s lo hlo k (⟨6 + dx.val, by omega⟩ : Fin 9) ((a + 2 + 1) / 2) w l

/-- Column `dx` of the window, taken at input column `w + f - 1`. -/
def colAt (q : S9x80x16x256.Idx → EReal) (s : S80x16x128.Idx → EReal) (lo : ℕ) (hlo : lo + 128 ≤ 256) (k : ℕ)
    (a : ℕ) (dx : Fin 3) (w : Fin 16) (f : ℕ) (l : Fin 128) : EReal :=
  if 1 ≤ w.val + f ∧ w.val + f ≤ 16 then
    col q s lo hlo k a dx (⟨min (w.val + f - 1) 15, by omega⟩ : Fin 16) l
  else 0

/-- The output at row `a` of trip `k`, column `r`, lane `l` of the half that starts at lane `lo`. -/
def outRow (q : S9x80x16x256.Idx → EReal) (s : S80x16x128.Idx → EReal) (ws bi : EReal) (lo : ℕ)
    (hlo : lo + 128 ≤ 256) (k : ℕ) (a : ℕ) (r : Fin 32) (l : Fin 128) : EReal :=
  (colAt q s lo hlo k a 0 (⟨r.val / 2, by omega⟩ : Fin 16) ((r.val % 2 + 0 + 1) / 2) l
    + colAt q s lo hlo k a 1 (⟨r.val / 2, by omega⟩ : Fin 16) ((r.val % 2 + 1 + 1) / 2) l
    + colAt q s lo hlo k a 2 (⟨r.val / 2, by omega⟩ : Fin 16) ((r.val % 2 + 2 + 1) / 2) l) * ws + bi

theorem select_ite (p : Prop) [Decidable p] (a b : EReal) :
    Scalar.select (if p then 1#1 else 0#1) a b = if p then a else b := by
  by_cases h : p <;> simp [h, Scalar.select]

theorem select_one (a b : EReal) : Scalar.select (1#1) a b = a := by simp [Scalar.select]

section

variable {q : S9x80x16x256.Idx → EReal} {s : S80x16x128.Idx → EReal} {ws bi : EReal} {lo : ℕ}
    {hlo : lo + 128 ≤ 256} {k a : ℕ} {w : Fin 16} {l : Fin 128}

theorem col_0_0 : col q s lo hlo k 0 0 w l
    = tap q s lo hlo k 0 0 w l + tap q s lo hlo k 3 1 w l + tap q s lo hlo k 6 1 w l := rfl
theorem col_0_1 : col q s lo hlo k 0 1 w l
    = tap q s lo hlo k 1 0 w l + tap q s lo hlo k 4 1 w l + tap q s lo hlo k 7 1 w l := rfl
theorem col_0_2 : col q s lo hlo k 0 2 w l
    = tap q s lo hlo k 2 0 w l + tap q s lo hlo k 5 1 w l + tap q s lo hlo k 8 1 w l := rfl
theorem col_1_0 : col q s lo hlo k 1 0 w l
    = tap q s lo hlo k 0 1 w l + tap q s lo hlo k 3 1 w l + tap q s lo hlo k 6 2 w l := rfl
theorem col_1_1 : col q s lo hlo k 1 1 w l
    = tap q s lo hlo k 1 1 w l + tap q s lo hlo k 4 1 w l + tap q s lo hlo k 7 2 w l := rfl
theorem col_1_2 : col q s lo hlo k 1 2 w l
    = tap q s lo hlo k 2 1 w l + tap q s lo hlo k 5 1 w l + tap q s lo hlo k 8 2 w l := rfl

theorem colAt_in {dx : Fin 3} {f : ℕ} (w' : Fin 16) (h : w'.val + 1 = w.val + f) :
    colAt q s lo hlo k a dx w f l = col q s lo hlo k a dx w' l := by
  unfold colAt
  rw [if_pos ⟨by omega, by omega⟩]
  exact congrArg (fun w => col q s lo hlo k a dx w l) (Fin.ext (by simp only; omega))

theorem colAt_out {dx : Fin 3} {f : ℕ} (h : w.val + f = 0 ∨ w.val + f = 17) :
    colAt q s lo hlo k a dx w f l = 0 := by
  unfold colAt
  rw [if_neg (by omega)]

theorem eq_first : ∀ n : Fin 16, IntOp.cmpi CmpIPredicate.eq (BitVec.ofNat 32 n.val) 0#32
    = if n.val = 0 then 1#1 else 0#1 := by decide
theorem eq_last : ∀ n : Fin 16, IntOp.cmpi CmpIPredicate.eq (BitVec.ofNat 32 n.val) 15#32
    = if n.val = 15 then 1#1 else 0#1 := by decide

/-- The whole output row from the three columns: the first column shifted right for an even column, the last
shifted left for an odd one, with nothing shifted in at the edges. -/
theorem outRow_even {r : Fin 32} (h : r.val % 2 = 0) :
    outRow q s ws bi lo hlo k a r l =
      (Scalar.select (IntOp.cmpi CmpIPredicate.eq (BitVec.ofNat 32 (r.val / 2)) 0#32) 0
          (col q s lo hlo k a 0 (⟨(r.val / 2 + 16 - 1) % 16, Nat.mod_lt _ (by decide)⟩ : Fin 16) l)
        + col q s lo hlo k a 1 (⟨r.val / 2, by omega⟩ : Fin 16) l
        + col q s lo hlo k a 2 (⟨r.val / 2, by omega⟩ : Fin 16) l) * ws + bi := by
  have h0 := eq_first (⟨r.val / 2, by omega⟩ : Fin 16)
  simp only at h0
  unfold outRow
  rw [h, h0, select_ite, colAt_in (dx := 1) (⟨r.val / 2, by omega⟩ : Fin 16) (by simp),
    colAt_in (dx := 2) (⟨r.val / 2, by omega⟩ : Fin 16) (by simp)]
  by_cases hw : r.val / 2 = 0
  · rw [if_pos hw, colAt_out (by left; simp [hw])]
  · rw [if_neg hw, colAt_in (⟨(r.val / 2 + 16 - 1) % 16, Nat.mod_lt _ (by decide)⟩ : Fin 16) (by simp; omega)]

theorem outRow_odd {r : Fin 32} (h : ¬ r.val % 2 = 0) :
    outRow q s ws bi lo hlo k a r l =
      (col q s lo hlo k a 0 (⟨r.val / 2, by omega⟩ : Fin 16) l
        + col q s lo hlo k a 1 (⟨r.val / 2, by omega⟩ : Fin 16) l
        + Scalar.select (IntOp.cmpi CmpIPredicate.eq (BitVec.ofNat 32 (r.val / 2)) 15#32) 0
          (col q s lo hlo k a 2 (⟨(r.val / 2 + 16 - 15) % 16, Nat.mod_lt _ (by decide)⟩ : Fin 16) l)) * ws + bi := by
  have h1 : r.val % 2 = 1 := by omega
  have h0 := eq_last (⟨r.val / 2, by omega⟩ : Fin 16)
  simp only at h0
  unfold outRow
  rw [h1, h0, select_ite, colAt_in (dx := 0) (⟨r.val / 2, by omega⟩ : Fin 16) (by simp),
    colAt_in (dx := 1) (⟨r.val / 2, by omega⟩ : Fin 16) (by simp)]
  by_cases hw : r.val / 2 = 15
  · rw [if_pos hw, colAt_out (by right; simp [hw])]
  · rw [if_neg hw, colAt_in (⟨(r.val / 2 + 16 - 15) % 16, Nat.mod_lt _ (by decide)⟩ : Fin 16) (by simp; omega)]

end

/-- One term of a trip: the product where `c` holds, added to zero. -/
def term1 (c : BitVec 1) (q1 : Vec Ideal S1x1x16x128 .f32) (s1 : Vec Ideal S1x16x128 .f32) : FVec Ideal S1x16x128 .f32 :=
  addf (F := Ideal) (broadcast S1x16x128 (Scalar.ofBits (F := Ideal) .f32 0x00000000#32)) (shapeCast S1x16x128
    (Scalar.select c (mulf (F := Ideal) (shapeCast S16x128 q1 shapeCasts_S1x1x16x128_S16x128)
      (shapeCast S16x128 s1 shapeCasts_S1x16x128_S16x128) : FVec Ideal S16x128 .f32)
      (broadcast S16x128 (Scalar.ofBits (F := Ideal) .f32 0x00000000#32))) shapeCasts_S16x128_S1x16x128)

theorem term1_apply (c : BitVec 1) (q1 : Vec Ideal S1x1x16x128 .f32) (s1 : Vec Ideal S1x16x128 .f32) (w : Fin 16)
    (l : Fin 128) : term1 c q1 s1 (ix3 (0 : Fin 1) w l)
    = Scalar.select c (q1 (ix4 (0 : Fin 1) (0 : Fin 1) w l) * s1 (ix3 (0 : Fin 1) w l)) (0 : EReal) := by
  pointwise [term1]

/-- A product loaded at row `off 1` of tap `off 0`. -/
theorem ldQ {arg8 : Memref sig .tc .vmem S9x80x16x256 .f32} {X : BufTy.Contents (Elt Ideal) arg8.view.ty}
    {off : Fin 4 → ℕ} {inb} {lo : ℕ} (hlo : lo + 128 ≤ 256) {t : Fin 9}
    {b : Fin 80} (h : off = ![t.val, b.val, 0, lo]) (w : Fin 16) (l : Fin 128) :
    View.readAt (Elt Ideal) arg8.view (Rect.unit (s := S9x80x16x256) off S1x1x16x128.size inb).toLoadRect X (ix4 (0 : Fin 1) (0 : Fin 1) w l)
      = arg8.view.read (Elt Ideal) X (ix4 t b w (⟨lo + l.val, by omega⟩ : Fin 256)) := by
  subst h
  rw [View.readAt_eq_ld]
  refine View.ld_unit_apply_of _ _ _ _ _ _ fun a => ?_
  fin_cases a <;> simp

/-- The scale loaded at row `off 0`. -/
theorem ldS {arg2 : Memref sig .tc .vmem S80x16x128 .f32} {X : BufTy.Contents (Elt Ideal) arg2.view.ty}
    {off : Fin 3 → ℕ} {inb} {b : Fin 80} (h : off = ![b.val, 0, 0]) (w : Fin 16) (l : Fin 128) :
    View.readAt (Elt Ideal) arg2.view (Rect.unit (s := S80x16x128) off S1x16x128.size inb).toLoadRect X (ix3 (0 : Fin 1) w l)
      = arg2.view.read (Elt Ideal) X (ix3 b w l) := by
  subst h
  rw [View.readAt_eq_ld]
  refine View.ld_unit_apply_of _ _ _ _ _ _ fun a => ?_
  fin_cases a <;> simp
/-! The terms of a trip at a coordinate. -/

section

variable (V u : BitVec 32) (c : BitVec 1) (q1 q2 : Vec Ideal S1x1x16x128 .f32) (s1 s2 : Vec Ideal S1x16x128 .f32)
  (x y z : FVec Ideal S1x16x128 .f32) (g : FVec Ideal S16x128 .f32) (ws bi : Vec Ideal S1x1x128 .f32)
  (w : Fin 16) (l : Fin 128) (r : Fin 32)

theorem p49_T1 : (shapeCast S16x128 q1 shapeCasts_S1x1x16x128_S16x128 : FVec Ideal S16x128 .f32) (ix2 w l)
    = q1 (ix4 (0 : Fin 1) (0 : Fin 1) w l) := by
  pointwise
theorem p50_T1 : k0_pay50 (F := Ideal) V c g s1 q2 s2 (ix3 (0 : Fin 1) w l)
    = Scalar.select c (g (ix2 w l) * s1 (ix3 (0 : Fin 1) w l)) (0 : EReal) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay50]
theorem p51_T1 : k0_pay51 (F := Ideal) x c q1 s1 (ix3 (0 : Fin 1) w l) = x (ix3 (0 : Fin 1) w l) + (Scalar.select c (q1 (ix4 (0 : Fin 1) (0 : Fin 1) w l) * s1 (ix3 (0 : Fin 1) w l)) (0 : EReal)) := by
  pointwise [k0_pay51]
theorem p52_T1 : k0_pay52 (F := Ideal) V q1 s1 (ix3 (0 : Fin 1) w l) = (Scalar.select (Scalar.andi (Scalar.cmpi CmpIPredicate.sge (Scalar.addi V 4294967295#32) 0#32) (Scalar.cmpi CmpIPredicate.slt (Scalar.addi V 4294967295#32) 40#32)) (q1 (ix4 (0 : Fin 1) (0 : Fin 1) w l) * s1 (ix3 (0 : Fin 1) w l)) (0 : EReal)) := by
  unfold k0_pay52
  exact term1_apply _ _ _ _ _
theorem p53_T1 : k0_pay53 (F := Ideal) V x c q1 s1 q2 s2 (ix3 (0 : Fin 1) w l)
    = x (ix3 (0 : Fin 1) w l) + (Scalar.select c (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay53]
theorem p54_T1 : k0_pay54 (F := Ideal) V c q1 s1 q2 s2 (ix3 (0 : Fin 1) w l)
    = (Scalar.select c (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay54]
theorem p56_T1 : k0_pay56 (F := Ideal) V u c q1 s1 q2 s2 (ix3 (0 : Fin 1) w l)
    = (Scalar.select (Scalar.andi c (Scalar.cmpi CmpIPredicate.slt u 40#32)) (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay56]
theorem p57_T1 : k0_pay57 (F := Ideal) x u q1 s1 (ix3 (0 : Fin 1) w l)
    = x (ix3 (0 : Fin 1) w l) + (Scalar.select (Scalar.andi (Scalar.cmpi CmpIPredicate.sge u 0#32) (Scalar.cmpi CmpIPredicate.slt u 40#32)) (q1 (ix4 (0 : Fin 1) (0 : Fin 1) w l) * s1 (ix3 (0 : Fin 1) w l)) (0 : EReal)) := by
  pointwise [k0_pay57]
theorem p58_T1 : k0_pay58 (F := Ideal) V q1 s1 (ix3 (0 : Fin 1) w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay58]
theorem p59_T1 : k0_pay59 (F := Ideal) V x q1 s1 q2 s2 (ix3 (0 : Fin 1) w l)
    = x (ix3 (0 : Fin 1) w l) + (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) + (Scalar.select (Scalar.andi (Scalar.cmpi CmpIPredicate.sge (Scalar.addi V 1#32) 0#32) (Scalar.cmpi CmpIPredicate.slt (Scalar.addi V 1#32) 40#32)) (q2 (ix4 (0 : Fin 1) (0 : Fin 1) w l) * s2 (ix3 (0 : Fin 1) w l)) (0 : EReal)) := by
  pointwise [k0_pay59]
theorem p60_T1 : k0_pay60 (F := Ideal) V q1 s1 (ix3 (0 : Fin 1) w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay60]
theorem p61_T1 : k0_pay61 (F := Ideal) V q1 s1 (ix2 w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay61]
theorem p62_T1 : k0_pay62 (F := Ideal) V x g q1 s1 (ix3 (0 : Fin 1) w l)
    = x (ix3 (0 : Fin 1) w l) + g (ix2 w l) + (Scalar.select (Scalar.andi (Scalar.cmpi CmpIPredicate.sge (Scalar.addi V 1#32) 0#32) (Scalar.cmpi CmpIPredicate.slt (Scalar.addi V 1#32) 40#32)) (q1 (ix4 (0 : Fin 1) (0 : Fin 1) w l) * s1 (ix3 (0 : Fin 1) w l)) (0 : EReal)) := by
  pointwise [k0_pay62]

/-- The even output row, from its three columns. -/
theorem p55_T1 (lo : ℕ) (hlo : lo + 128 ≤ 256) (k : ℕ) (Q : S9x80x16x256.Idx → EReal)
    (T : S80x16x128.Idx → EReal)
    (h0 : ∀ w, x (ix3 (0 : Fin 1) w l) = col Q T lo hlo k 0 0 w l)
    (h1 : ∀ w, y (ix3 (0 : Fin 1) w l) = col Q T lo hlo k 0 1 w l)
    (h2 : ∀ w, z (ix3 (0 : Fin 1) w l) + (Scalar.select c (q1 (ix4 (0 : Fin 1) (0 : Fin 1) w l) * s1 (ix3 (0 : Fin 1) w l)) (0 : EReal)) = col Q T lo hlo k 0 2 w l) :
    k0_pay3 (k0_pay55 (F := Ideal) (k0_pay1 ws) (k0_pay2 bi) x y z c q1 s1) (ix4 (0 : Fin 1) (0 : Fin 1) r l)
      = outRow Q T (ws (ix3 (0 : Fin 1) (0 : Fin 1) l)) (bi (ix3 (0 : Fin 1) (0 : Fin 1) l)) lo hlo k 0 r l := by
  pointwise [k0_pay1, k0_pay2, k0_pay3, k0_pay55]
  split
  · next h => rw [outRow_even h]; simp only [h0, h1, h2]
  · next h => rw [outRow_odd h]; simp only [h0, h1, h2]

/-- The odd output row, from its three columns. -/
theorem p64_T1 (lo : ℕ) (hlo : lo + 128 ≤ 256) (k : ℕ) (Q : S9x80x16x256.Idx → EReal) (T : S80x16x128.Idx → EReal)
    (h0 : ∀ w, x (ix3 (0 : Fin 1) w l) = col Q T lo hlo k 1 0 w l)
    (h1 : ∀ w, y (ix3 (0 : Fin 1) w l) = col Q T lo hlo k 1 1 w l)
    (h2 : ∀ w, k0_pay62 (F := Ideal) V z g q1 s1 (ix3 (0 : Fin 1) w l) = col Q T lo hlo k 1 2 w l) :
    k0_pay4 ws bi (k0_pay63 (F := Ideal) V x y z g q1 s1) (k0_pay64 (F := Ideal) (k0_pay1 ws) (k0_pay2 bi) V x y z g q1 s1)
        (ix4 (0 : Fin 1) (0 : Fin 1) r l)
      = outRow Q T (ws (ix3 (0 : Fin 1) (0 : Fin 1) l)) (bi (ix3 (0 : Fin 1) (0 : Fin 1) l)) lo hlo k 1 r l := by
  unfold k0_pay63 k0_pay64
  generalize k0_pay62 (F := Ideal) V z g q1 s1 = Z at h2 ⊢
  pointwise [k0_pay1, k0_pay2, k0_pay4]
  split
  · next h => rw [outRow_even h]; simp only [h0, h1, h2]
  · next h => rw [outRow_odd h]; simp only [h0, h1, h2]

end

/-! The terms of a trip at a coordinate. -/

section

variable (V u : BitVec 32) (c : BitVec 1) (q1 q2 : Vec Ideal S1x1x16x128 .f32) (s1 s2 : Vec Ideal S1x16x128 .f32)
  (x y z : FVec Ideal S1x16x128 .f32) (g : FVec Ideal S16x128 .f32) (ws bi : Vec Ideal S1x1x128 .f32)
  (w : Fin 16) (l : Fin 128) (r : Fin 32)

theorem p49_T2 : (shapeCast S16x128 q1 shapeCasts_S1x1x16x128_S16x128 : FVec Ideal S16x128 .f32) (ix2 w l)
    = q1 (ix4 (0 : Fin 1) (0 : Fin 1) w l) := by
  pointwise
theorem p50_T2 : k0_pay66 (F := Ideal) V c g s1 q2 s2 (ix3 (0 : Fin 1) w l)
    = Scalar.select c (g (ix2 w l) * s1 (ix3 (0 : Fin 1) w l)) (0 : EReal) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay66]
theorem p51_T2 : k0_pay67 (F := Ideal) x c q1 s1 (ix3 (0 : Fin 1) w l) = x (ix3 (0 : Fin 1) w l) + (Scalar.select c (q1 (ix4 (0 : Fin 1) (0 : Fin 1) w l) * s1 (ix3 (0 : Fin 1) w l)) (0 : EReal)) := by
  pointwise [k0_pay67]
theorem p52_T2 : k0_pay68 (F := Ideal) V q1 s1 (ix3 (0 : Fin 1) w l) = (Scalar.select (Scalar.andi (Scalar.cmpi CmpIPredicate.sge (Scalar.addi V 4294967295#32) 0#32) (Scalar.cmpi CmpIPredicate.slt (Scalar.addi V 4294967295#32) 40#32)) (q1 (ix4 (0 : Fin 1) (0 : Fin 1) w l) * s1 (ix3 (0 : Fin 1) w l)) (0 : EReal)) := by
  unfold k0_pay68
  exact term1_apply _ _ _ _ _
theorem p53_T2 : k0_pay69 (F := Ideal) V x c q1 s1 q2 s2 (ix3 (0 : Fin 1) w l)
    = x (ix3 (0 : Fin 1) w l) + (Scalar.select c (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay69]
theorem p54_T2 : k0_pay70 (F := Ideal) V c q1 s1 q2 s2 (ix3 (0 : Fin 1) w l)
    = (Scalar.select c (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay70]
theorem p56_T2 : k0_pay72 (F := Ideal) V u c q1 s1 q2 s2 (ix3 (0 : Fin 1) w l)
    = (Scalar.select (Scalar.andi c (Scalar.cmpi CmpIPredicate.slt u 40#32)) (q1 (ix4 (0 : Fin 1) (0 : Fin 1) w l) * s1 (ix3 (0 : Fin 1) w l)) (0 : EReal)) + (Scalar.select (Scalar.andi (Scalar.cmpi CmpIPredicate.sge (Scalar.addi V 0#32) 0#32) (Scalar.cmpi CmpIPredicate.slt (Scalar.addi V 0#32) 40#32)) (q2 (ix4 (0 : Fin 1) (0 : Fin 1) w l) * s2 (ix3 (0 : Fin 1) w l)) (0 : EReal)) := by
  pointwise [k0_pay72]
theorem p57_T2 : k0_pay73 (F := Ideal) x u q1 s1 (ix3 (0 : Fin 1) w l)
    = x (ix3 (0 : Fin 1) w l) + (Scalar.select (Scalar.andi (Scalar.cmpi CmpIPredicate.sge u 0#32) (Scalar.cmpi CmpIPredicate.slt u 40#32)) (q1 (ix4 (0 : Fin 1) (0 : Fin 1) w l) * s1 (ix3 (0 : Fin 1) w l)) (0 : EReal)) := by
  pointwise [k0_pay73]
theorem p58_T2 : k0_pay74 (F := Ideal) V q1 s1 (ix3 (0 : Fin 1) w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay74]
theorem p59_T2 : k0_pay75 (F := Ideal) V x q1 s1 q2 s2 (ix3 (0 : Fin 1) w l)
    = x (ix3 (0 : Fin 1) w l) + (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) + (Scalar.select (Scalar.andi (Scalar.cmpi CmpIPredicate.sge (Scalar.addi V 1#32) 0#32) (Scalar.cmpi CmpIPredicate.slt (Scalar.addi V 1#32) 40#32)) (q2 (ix4 (0 : Fin 1) (0 : Fin 1) w l) * s2 (ix3 (0 : Fin 1) w l)) (0 : EReal)) := by
  pointwise [k0_pay75]
theorem p60_T2 : k0_pay76 (F := Ideal) V q1 s1 (ix3 (0 : Fin 1) w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay76]
theorem p61_T2 : k0_pay77 (F := Ideal) V q1 s1 (ix2 w l) = (Scalar.select (Scalar.andi (Scalar.cmpi CmpIPredicate.sge (Scalar.addi V 0#32) 0#32) (Scalar.cmpi CmpIPredicate.slt (Scalar.addi V 0#32) 40#32)) (q1 (ix4 (0 : Fin 1) (0 : Fin 1) w l) * s1 (ix3 (0 : Fin 1) w l)) (0 : EReal)) := by
  pointwise [k0_pay77]
theorem p62_T2 : k0_pay78 (F := Ideal) V x g q1 s1 (ix3 (0 : Fin 1) w l)
    = x (ix3 (0 : Fin 1) w l) + g (ix2 w l) + (Scalar.select (Scalar.andi (Scalar.cmpi CmpIPredicate.sge (Scalar.addi V 1#32) 0#32) (Scalar.cmpi CmpIPredicate.slt (Scalar.addi V 1#32) 40#32)) (q1 (ix4 (0 : Fin 1) (0 : Fin 1) w l) * s1 (ix3 (0 : Fin 1) w l)) (0 : EReal)) := by
  pointwise [k0_pay78]

/-- The even output row, from its three columns. -/
theorem p55_T2 (lo : ℕ) (hlo : lo + 128 ≤ 256) (k : ℕ) (Q : S9x80x16x256.Idx → EReal)
    (T : S80x16x128.Idx → EReal)
    (h0 : ∀ w, x (ix3 (0 : Fin 1) w l) = col Q T lo hlo k 0 0 w l)
    (h1 : ∀ w, y (ix3 (0 : Fin 1) w l) = col Q T lo hlo k 0 1 w l)
    (h2 : ∀ w, z (ix3 (0 : Fin 1) w l) + (Scalar.select c (q1 (ix4 (0 : Fin 1) (0 : Fin 1) w l) * s1 (ix3 (0 : Fin 1) w l)) (0 : EReal)) = col Q T lo hlo k 0 2 w l) :
    k0_pay7 (k0_pay71 (F := Ideal) (k0_pay5 ws) (k0_pay6 bi) x y z c q1 s1) (ix4 (0 : Fin 1) (0 : Fin 1) r l)
      = outRow Q T (ws (ix3 (0 : Fin 1) (0 : Fin 1) l)) (bi (ix3 (0 : Fin 1) (0 : Fin 1) l)) lo hlo k 0 r l := by
  pointwise [k0_pay5, k0_pay6, k0_pay7, k0_pay71]
  split
  · next h => rw [outRow_even h]; simp only [h0, h1, h2]
  · next h => rw [outRow_odd h]; simp only [h0, h1, h2]

/-- The odd output row, from its three columns. -/
theorem p64_T2 (lo : ℕ) (hlo : lo + 128 ≤ 256) (k : ℕ) (Q : S9x80x16x256.Idx → EReal) (T : S80x16x128.Idx → EReal)
    (h0 : ∀ w, x (ix3 (0 : Fin 1) w l) = col Q T lo hlo k 1 0 w l)
    (h1 : ∀ w, y (ix3 (0 : Fin 1) w l) = col Q T lo hlo k 1 1 w l)
    (h2 : ∀ w, k0_pay78 (F := Ideal) V z g q1 s1 (ix3 (0 : Fin 1) w l) = col Q T lo hlo k 1 2 w l) :
    k0_pay8 ws bi (k0_pay79 (F := Ideal) V x y z g q1 s1) (k0_pay80 (F := Ideal) (k0_pay5 ws) (k0_pay6 bi) V x y z g q1 s1)
        (ix4 (0 : Fin 1) (0 : Fin 1) r l)
      = outRow Q T (ws (ix3 (0 : Fin 1) (0 : Fin 1) l)) (bi (ix3 (0 : Fin 1) (0 : Fin 1) l)) lo hlo k 1 r l := by
  unfold k0_pay79 k0_pay80
  generalize k0_pay78 (F := Ideal) V z g q1 s1 = Z at h2 ⊢
  pointwise [k0_pay5, k0_pay6, k0_pay8]
  split
  · next h => rw [outRow_even h]; simp only [h0, h1, h2]
  · next h => rw [outRow_odd h]; simp only [h0, h1, h2]

end

end Cert.KernelIdeal.Hand
-- ==== Proof.KI.Trips1.lean ====
module

public import proofs.«01_k».proof.Proof.KI.Rows
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Cert.KernelIdeal Cert.KernelIdeal.Gen

/-! ### The half of the lanes from 0 on: where a trip reads and writes, and what it writes. -/

theorem st0_T1 : ∀ k : Fin k0_t1_loop.trips, k0_off11 k 0#32 = ![k.val / 40, 2 * (k.val % 40) + 0, 0, 0] := by
  decide +kernel
theorem st1_T1 : ∀ k : Fin k0_t1_loop.trips, k0_off11 k 1#32 = ![k.val / 40, 2 * (k.val % 40) + 1, 0, 0] := by
  decide +kernel
theorem q0_0_T1 : ∀ k : Fin k0_t1_loop.trips, k0_off1 k 4294967295#32 = ![0, min (k.val + 0 - 1) 79, 0, 0] := by
  decide +kernel
theorem q0_1_T1 : ∀ k : Fin k0_t1_loop.trips, k0_off1 k 0#32 = ![0, min (k.val + 1 - 1) 79, 0, 0] := by
  decide +kernel
theorem q3_1_T1 : ∀ k : Fin k0_t1_loop.trips, k0_off3 k = ![3, min (k.val + 1 - 1) 79, 0, 0] := by
  decide +kernel
theorem q6_1_T1 : ∀ k : Fin k0_t1_loop.trips, k0_off4 k 0#32 = ![6, min (k.val + 1 - 1) 79, 0, 0] := by
  decide +kernel
theorem q6_2_T1 : ∀ k : Fin k0_t1_loop.trips, k0_off4 k 1#32 = ![6, min (k.val + 2 - 1) 79, 0, 0] := by
  decide +kernel
theorem q1_0_T1 : ∀ k : Fin k0_t1_loop.trips, k0_off5 k 4294967295#32 = ![1, min (k.val + 0 - 1) 79, 0, 0] := by
  decide +kernel
theorem q1_1_T1 : ∀ k : Fin k0_t1_loop.trips, k0_off5 k 0#32 = ![1, min (k.val + 1 - 1) 79, 0, 0] := by
  decide +kernel
theorem q4_1_T1 : ∀ k : Fin k0_t1_loop.trips, k0_off6 k = ![4, min (k.val + 1 - 1) 79, 0, 0] := by
  decide +kernel
theorem q7_1_T1 : ∀ k : Fin k0_t1_loop.trips, k0_off7 k 0#32 = ![7, min (k.val + 1 - 1) 79, 0, 0] := by
  decide +kernel
theorem q7_2_T1 : ∀ k : Fin k0_t1_loop.trips, k0_off7 k 1#32 = ![7, min (k.val + 2 - 1) 79, 0, 0] := by
  decide +kernel
theorem q2_0_T1 : ∀ k : Fin k0_t1_loop.trips, k0_off8 k 4294967295#32 = ![2, min (k.val + 0 - 1) 79, 0, 0] := by
  decide +kernel
theorem q2_1_T1 : ∀ k : Fin k0_t1_loop.trips, k0_off8 k 0#32 = ![2, min (k.val + 1 - 1) 79, 0, 0] := by
  decide +kernel
theorem q5_1_T1 : ∀ k : Fin k0_t1_loop.trips, k0_off9 k = ![5, min (k.val + 1 - 1) 79, 0, 0] := by
  decide +kernel
theorem q8_1_T1 : ∀ k : Fin k0_t1_loop.trips, k0_off10 k 0#32 = ![8, min (k.val + 1 - 1) 79, 0, 0] := by
  decide +kernel
theorem q8_2_T1 : ∀ k : Fin k0_t1_loop.trips, k0_off10 k 1#32 = ![8, min (k.val + 2 - 1) 79, 0, 0] := by
  decide +kernel
theorem s0_T1 : ∀ k : Fin k0_t1_loop.trips, k0_off2 k 4294967295#32 = ![min (k.val + 0 - 1) 79, 0, 0] := by
  decide +kernel
theorem c0_T1 : ∀ k : Fin k0_t1_loop.trips,
    Scalar.andi (Scalar.cmpi .sge (Scalar.addi (trip_k0_t1.sl.v111 k) 4294967295#32) 0#32)
      (Scalar.cmpi .slt (Scalar.addi (trip_k0_t1.sl.v111 k) 4294967295#32) 40#32)
      = if 1 ≤ k.val % 40 + 0 ∧ k.val % 40 + 0 ≤ 40 then 1#1 else 0#1 := by
  decide +kernel
theorem s1_T1 : ∀ k : Fin k0_t1_loop.trips, k0_off2 k 0#32 = ![min (k.val + 1 - 1) 79, 0, 0] := by
  decide +kernel
theorem s2_T1 : ∀ k : Fin k0_t1_loop.trips, k0_off2 k 1#32 = ![min (k.val + 2 - 1) 79, 0, 0] := by
  decide +kernel
theorem c2_T1 : ∀ k : Fin k0_t1_loop.trips,
    Scalar.andi (Scalar.cmpi .sge (Scalar.addi (trip_k0_t1.sl.v111 k) 1#32) 0#32)
      (Scalar.cmpi .slt (Scalar.addi (trip_k0_t1.sl.v111 k) 1#32) 40#32)
      = if 1 ≤ k.val % 40 + 2 ∧ k.val % 40 + 2 ≤ 40 then 1#1 else 0#1 := by
  decide +kernel
theorem c1_T1 : ∀ k : Fin k0_t1_loop.trips,
    Scalar.andi (Scalar.cmpi .sge (Scalar.addi (trip_k0_t1.sl.v111 k) 0#32) 0#32)
      (Scalar.cmpi .slt (Scalar.addi (trip_k0_t1.sl.v111 k) 0#32) 40#32) = 1#1 := by
  decide +kernel
theorem c1'_T1 : ∀ k : Fin k0_t1_loop.trips, 1 ≤ k.val % 40 + 1 ∧ k.val % 40 + 1 ≤ 40 := by
  decide +kernel
theorem v115_T1 : ∀ k : Fin k0_t1_loop.trips, trip_k0_t1.sl.v115 k
      = if 1 ≤ k.val % 40 + 0 ∧ k.val % 40 + 0 ≤ 40 then 1#1 else 0#1 := by
  decide +kernel
theorem v149_T1 : ∀ k : Fin k0_t1_loop.trips, Scalar.andi 1#1 (Scalar.cmpi .slt (trip_k0_t1.sl.v149 k) 40#32) = 1#1 := by
  decide +kernel
theorem v346_T1 : ∀ k : Fin k0_t1_loop.trips,
    Scalar.andi (Scalar.cmpi .sge (trip_k0_t1.sl.v346 k) 0#32) (Scalar.cmpi .slt (trip_k0_t1.sl.v346 k) 40#32)
      = if 1 ≤ k.val % 40 + 2 ∧ k.val % 40 + 2 ≤ 40 then 1#1 else 0#1 := by
  decide +kernel

section

variable (arg2 : Memref sig .tc .vmem S80x16x128 .f32) (arg8 : Memref sig .tc .vmem S9x80x16x256 .f32)
  (v75 v77 : Vec Ideal S1x1x128 .f32) (X2 : BufTy.Contents (Elt Ideal) arg2.view.ty)
  (X8 : BufTy.Contents (Elt Ideal) arg8.view.ty) (k : Fin k0_t1_loop.trips)

set_option backward.isDefEq.respectTransparency false in
theorem r1_T1 (w : Fin 16) (l : Fin 128) :
    trip_k0_t1.sl.r_1 (F := Ideal) arg2 arg8 X2 X8 k (ix3 (0 : Fin 1) w l) = tap (arg8.view.read (Elt Ideal) X8) (arg2.view.read (Elt Ideal) X2) 0 (by decide) k.val 0 0 w l + tap (arg8.view.read (Elt Ideal) X8) (arg2.view.read (Elt Ideal) X2) 0 (by decide) k.val 3 1 w l + tap (arg8.view.read (Elt Ideal) X8) (arg2.view.read (Elt Ideal) X2) 0 (by decide) k.val 6 1 w l := by
  unfold trip_k0_t1.sl.r_1 trip_k0_t1.sl.r trip_k0_t1.sl.v121
  rw [p51_T1, p50_T1, p49_T1]
  simp only [ldQ (lo := 0) (t := 0) (b := ⟨min (k.val + 0 - 1) 79, by omega⟩) (by decide) (q0_0_T1 k), ldQ (lo := 0) (t := 3) (b := ⟨min (k.val + 1 - 1) 79, by omega⟩) (by decide) (q3_1_T1 k), ldQ (lo := 0) (t := 6) (b := ⟨min (k.val + 1 - 1) 79, by omega⟩) (by decide) (q6_1_T1 k),
    ldS (b := ⟨min (k.val + 0 - 1) 79, by omega⟩) (s0_T1 k), ldS (b := ⟨min (k.val + 1 - 1) 79, by omega⟩) (s1_T1 k),
    c0_T1 k, c1_T1 k, c2_T1 k, v115_T1 k, v149_T1 k, v346_T1 k, select_ite, select_one, if_pos (c1'_T1 k), tap]

set_option backward.isDefEq.respectTransparency false in
theorem r3_T1 (w : Fin 16) (l : Fin 128) :
    trip_k0_t1.sl.r_3 (F := Ideal) arg2 arg8 X2 X8 k (ix3 (0 : Fin 1) w l) = tap (arg8.view.read (Elt Ideal) X8) (arg2.view.read (Elt Ideal) X2) 0 (by decide) k.val 1 0 w l + tap (arg8.view.read (Elt Ideal) X8) (arg2.view.read (Elt Ideal) X2) 0 (by decide) k.val 4 1 w l + tap (arg8.view.read (Elt Ideal) X8) (arg2.view.read (Elt Ideal) X2) 0 (by decide) k.val 7 1 w l := by
  unfold trip_k0_t1.sl.r_3 trip_k0_t1.sl.r_2
  rw [p53_T1, p52_T1]
  simp only [ldQ (lo := 0) (t := 1) (b := ⟨min (k.val + 0 - 1) 79, by omega⟩) (by decide) (q1_0_T1 k), ldQ (lo := 0) (t := 4) (b := ⟨min (k.val + 1 - 1) 79, by omega⟩) (by decide) (q4_1_T1 k), ldQ (lo := 0) (t := 7) (b := ⟨min (k.val + 1 - 1) 79, by omega⟩) (by decide) (q7_1_T1 k),
    ldS (b := ⟨min (k.val + 0 - 1) 79, by omega⟩) (s0_T1 k), ldS (b := ⟨min (k.val + 1 - 1) 79, by omega⟩) (s1_T1 k),
    c0_T1 k, c1_T1 k, c2_T1 k, v115_T1 k, v149_T1 k, v346_T1 k, select_ite, select_one, if_pos (c1'_T1 k), tap]

set_option backward.isDefEq.respectTransparency false in
theorem r4_T1 (w : Fin 16) (l : Fin 128) :
    trip_k0_t1.sl.r_4 (F := Ideal) arg2 arg8 X2 X8 k (ix3 (0 : Fin 1) w l) = tap (arg8.view.read (Elt Ideal) X8) (arg2.view.read (Elt Ideal) X2) 0 (by decide) k.val 2 0 w l + tap (arg8.view.read (Elt Ideal) X8) (arg2.view.read (Elt Ideal) X2) 0 (by decide) k.val 5 1 w l := by
  unfold trip_k0_t1.sl.r_4
  rw [p54_T1]
  simp only [ldQ (lo := 0) (t := 2) (b := ⟨min (k.val + 0 - 1) 79, by omega⟩) (by decide) (q2_0_T1 k), ldQ (lo := 0) (t := 5) (b := ⟨min (k.val + 1 - 1) 79, by omega⟩) (by decide) (q5_1_T1 k),
    ldS (b := ⟨min (k.val + 0 - 1) 79, by omega⟩) (s0_T1 k), ldS (b := ⟨min (k.val + 1 - 1) 79, by omega⟩) (s1_T1 k),
    c0_T1 k, c1_T1 k, c2_T1 k, v115_T1 k, v149_T1 k, v346_T1 k, select_ite, select_one, if_pos (c1'_T1 k), tap]

set_option backward.isDefEq.respectTransparency false in
theorem r7_T1 (w : Fin 16) (l : Fin 128) :
    trip_k0_t1.sl.r_7 (F := Ideal) arg2 arg8 X2 X8 k (ix3 (0 : Fin 1) w l) = tap (arg8.view.read (Elt Ideal) X8) (arg2.view.read (Elt Ideal) X2) 0 (by decide) k.val 0 1 w l + tap (arg8.view.read (Elt Ideal) X8) (arg2.view.read (Elt Ideal) X2) 0 (by decide) k.val 3 1 w l + tap (arg8.view.read (Elt Ideal) X8) (arg2.view.read (Elt Ideal) X2) 0 (by decide) k.val 6 2 w l := by
  unfold trip_k0_t1.sl.r_7 trip_k0_t1.sl.r_6
  rw [p57_T1, p56_T1]
  simp only [ldQ (lo := 0) (t := 0) (b := ⟨min (k.val + 1 - 1) 79, by omega⟩) (by decide) (q0_1_T1 k), ldQ (lo := 0) (t := 3) (b := ⟨min (k.val + 1 - 1) 79, by omega⟩) (by decide) (q3_1_T1 k), ldQ (lo := 0) (t := 6) (b := ⟨min (k.val + 2 - 1) 79, by omega⟩) (by decide) (q6_2_T1 k),
    ldS (b := ⟨min (k.val + 1 - 1) 79, by omega⟩) (s1_T1 k), ldS (b := ⟨min (k.val + 2 - 1) 79, by omega⟩) (s2_T1 k),
    c0_T1 k, c1_T1 k, c2_T1 k, v115_T1 k, v149_T1 k, v346_T1 k, select_ite, select_one, if_pos (c1'_T1 k), tap]

set_option backward.isDefEq.respectTransparency false in
theorem r9_T1 (w : Fin 16) (l : Fin 128) :
    trip_k0_t1.sl.r_9 (F := Ideal) arg2 arg8 X2 X8 k (ix3 (0 : Fin 1) w l) = tap (arg8.view.read (Elt Ideal) X8) (arg2.view.read (Elt Ideal) X2) 0 (by decide) k.val 1 1 w l + tap (arg8.view.read (Elt Ideal) X8) (arg2.view.read (Elt Ideal) X2) 0 (by decide) k.val 4 1 w l + tap (arg8.view.read (Elt Ideal) X8) (arg2.view.read (Elt Ideal) X2) 0 (by decide) k.val 7 2 w l := by
  unfold trip_k0_t1.sl.r_9 trip_k0_t1.sl.r_8
  rw [p59_T1, p58_T1]
  simp only [ldQ (lo := 0) (t := 1) (b := ⟨min (k.val + 1 - 1) 79, by omega⟩) (by decide) (q1_1_T1 k), ldQ (lo := 0) (t := 4) (b := ⟨min (k.val + 1 - 1) 79, by omega⟩) (by decide) (q4_1_T1 k), ldQ (lo := 0) (t := 7) (b := ⟨min (k.val + 2 - 1) 79, by omega⟩) (by decide) (q7_2_T1 k),
    ldS (b := ⟨min (k.val + 1 - 1) 79, by omega⟩) (s1_T1 k), ldS (b := ⟨min (k.val + 2 - 1) 79, by omega⟩) (s2_T1 k),
    c0_T1 k, c1_T1 k, c2_T1 k, v115_T1 k, v149_T1 k, v346_T1 k, select_ite, select_one, if_pos (c1'_T1 k), tap]

set_option backward.isDefEq.respectTransparency false in
theorem r10_T1 (w : Fin 16) (l : Fin 128) :
    trip_k0_t1.sl.r_10 (F := Ideal) arg2 arg8 X2 X8 k (ix3 (0 : Fin 1) w l) = tap (arg8.view.read (Elt Ideal) X8) (arg2.view.read (Elt Ideal) X2) 0 (by decide) k.val 2 1 w l := by
  unfold trip_k0_t1.sl.r_10
  rw [p60_T1]
  simp only [ldQ (lo := 0) (t := 2) (b := ⟨min (k.val + 1 - 1) 79, by omega⟩) (by decide) (q2_1_T1 k),
    ldS (b := ⟨min (k.val + 1 - 1) 79, by omega⟩) (s1_T1 k),
    c0_T1 k, c1_T1 k, c2_T1 k, v115_T1 k, v149_T1 k, v346_T1 k, select_ite, select_one, if_pos (c1'_T1 k), tap]

set_option backward.isDefEq.respectTransparency false in
theorem r11_T1 (w : Fin 16) (l : Fin 128) :
    trip_k0_t1.sl.r_11 (F := Ideal) arg2 arg8 X2 X8 k (ix2 w l) = tap (arg8.view.read (Elt Ideal) X8) (arg2.view.read (Elt Ideal) X2) 0 (by decide) k.val 5 1 w l := by
  unfold trip_k0_t1.sl.r_11
  rw [p61_T1]
  simp only [ldQ (lo := 0) (t := 5) (b := ⟨min (k.val + 1 - 1) 79, by omega⟩) (by decide) (q5_1_T1 k),
    ldS (b := ⟨min (k.val + 1 - 1) 79, by omega⟩) (s1_T1 k),
    c0_T1 k, c1_T1 k, c2_T1 k, v115_T1 k, v149_T1 k, v346_T1 k, select_ite, select_one, if_pos (c1'_T1 k), tap]

set_option backward.isDefEq.respectTransparency false in
/-- The even output row of trip `k`. -/
theorem pay_even_T1 (r : Fin 32) (l : Fin 128) :
    k0_pay3 (trip_k0_t1.sl.r_5 (F := Ideal) arg2 arg8 v75 v77 X2 X8 k) (ix4 (0 : Fin 1) (0 : Fin 1) r l)
      = outRow (arg8.view.read (Elt Ideal) X8) (arg2.view.read (Elt Ideal) X2) (v75 (ix3 (0 : Fin 1) (0 : Fin 1) l)) (v77 (ix3 (0 : Fin 1) (0 : Fin 1) l)) 0 (by decide) k.val 0 r l := by
  unfold trip_k0_t1.sl.r_5
  refine p55_T1 _ _ _ _ _ _ _ _ _ _ 0 (by decide) k.val _ _ (fun w => ?_) (fun w => ?_) (fun w => ?_)
  · rw [r1_T1, col_0_0]
  · rw [r3_T1, col_0_1]
  · rw [r4_T1, col_0_2]
    simp only [ldQ (lo := 0) (t := 8) (b := ⟨min (k.val + 1 - 1) 79, by omega⟩) (by decide) (q8_1_T1 k),
      ldS (b := ⟨min (k.val + 1 - 1) 79, by omega⟩) (s1_T1 k), c0_T1 k, c1_T1 k, c2_T1 k, v115_T1 k, v149_T1 k, v346_T1 k, select_ite, select_one, if_pos (c1'_T1 k), tap]

set_option backward.isDefEq.respectTransparency false in
/-- The odd output row of trip `k`. -/
theorem pay_odd_T1 (r : Fin 32) (l : Fin 128) :
    k0_pay4 v75 v77 (trip_k0_t1.sl.r_12 (F := Ideal) arg2 arg8 X2 X8 k) (trip_k0_t1.sl.r_13 (F := Ideal) arg2 arg8 v75 v77 X2 X8 k)
        (ix4 (0 : Fin 1) (0 : Fin 1) r l)
      = outRow (arg8.view.read (Elt Ideal) X8) (arg2.view.read (Elt Ideal) X2) (v75 (ix3 (0 : Fin 1) (0 : Fin 1) l)) (v77 (ix3 (0 : Fin 1) (0 : Fin 1) l)) 0 (by decide) k.val 1 r l := by
  unfold trip_k0_t1.sl.r_12 trip_k0_t1.sl.r_13
  refine p64_T1 _ _ _ _ _ _ _ _ _ _ _ 0 (by decide) k.val _ _ (fun w => ?_) (fun w => ?_) (fun w => ?_)
  · rw [r7_T1, col_1_0]
  · rw [r9_T1, col_1_1]
  · rw [p62_T1, r10_T1, r11_T1, col_1_2]
    simp only [ldQ (lo := 0) (t := 8) (b := ⟨min (k.val + 2 - 1) 79, by omega⟩) (by decide) (q8_2_T1 k),
      ldS (b := ⟨min (k.val + 2 - 1) 79, by omega⟩) (s2_T1 k), c0_T1 k, c1_T1 k, c2_T1 k, v115_T1 k, v149_T1 k, v346_T1 k, select_ite, select_one, if_pos (c1'_T1 k), tap]

end

end Cert.KernelIdeal.Hand
-- ==== Proof.KI.Trips2.lean ====
module

public import proofs.«01_k».proof.Proof.KI.Rows
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Cert.KernelIdeal Cert.KernelIdeal.Gen

/-! ### The half of the lanes from 128 on: where a trip reads and writes, and what it writes. -/

theorem st0_T2 : ∀ k : Fin k0_t2_loop.trips, k0_off22 k 0#32 = ![k.val / 40, 2 * (k.val % 40) + 0, 0, 128] := by
  decide +kernel
theorem st1_T2 : ∀ k : Fin k0_t2_loop.trips, k0_off22 k 1#32 = ![k.val / 40, 2 * (k.val % 40) + 1, 0, 128] := by
  decide +kernel
theorem q0_0_T2 : ∀ k : Fin k0_t2_loop.trips, k0_off12 k 4294967295#32 = ![0, min (k.val + 0 - 1) 79, 0, 128] := by
  decide +kernel
theorem q0_1_T2 : ∀ k : Fin k0_t2_loop.trips, k0_off12 k 0#32 = ![0, min (k.val + 1 - 1) 79, 0, 128] := by
  decide +kernel
theorem q3_1_T2 : ∀ k : Fin k0_t2_loop.trips, k0_off14 k = ![3, min (k.val + 1 - 1) 79, 0, 128] := by
  decide +kernel
theorem q6_1_T2 : ∀ k : Fin k0_t2_loop.trips, k0_off15 k 0#32 = ![6, min (k.val + 1 - 1) 79, 0, 128] := by
  decide +kernel
theorem q6_2_T2 : ∀ k : Fin k0_t2_loop.trips, k0_off15 k 1#32 = ![6, min (k.val + 2 - 1) 79, 0, 128] := by
  decide +kernel
theorem q1_0_T2 : ∀ k : Fin k0_t2_loop.trips, k0_off16 k 4294967295#32 = ![1, min (k.val + 0 - 1) 79, 0, 128] := by
  decide +kernel
theorem q1_1_T2 : ∀ k : Fin k0_t2_loop.trips, k0_off16 k 0#32 = ![1, min (k.val + 1 - 1) 79, 0, 128] := by
  decide +kernel
theorem q4_1_T2 : ∀ k : Fin k0_t2_loop.trips, k0_off17 k = ![4, min (k.val + 1 - 1) 79, 0, 128] := by
  decide +kernel
theorem q7_1_T2 : ∀ k : Fin k0_t2_loop.trips, k0_off18 k 0#32 = ![7, min (k.val + 1 - 1) 79, 0, 128] := by
  decide +kernel
theorem q7_2_T2 : ∀ k : Fin k0_t2_loop.trips, k0_off18 k 1#32 = ![7, min (k.val + 2 - 1) 79, 0, 128] := by
  decide +kernel
theorem q2_0_T2 : ∀ k : Fin k0_t2_loop.trips, k0_off19 k 4294967295#32 = ![2, min (k.val + 0 - 1) 79, 0, 128] := by
  decide +kernel
theorem q2_1_T2 : ∀ k : Fin k0_t2_loop.trips, k0_off19 k 0#32 = ![2, min (k.val + 1 - 1) 79, 0, 128] := by
  decide +kernel
theorem q5_1_T2 : ∀ k : Fin k0_t2_loop.trips, k0_off20 k = ![5, min (k.val + 1 - 1) 79, 0, 128] := by
  decide +kernel
theorem q8_1_T2 : ∀ k : Fin k0_t2_loop.trips, k0_off21 k 0#32 = ![8, min (k.val + 1 - 1) 79, 0, 128] := by
  decide +kernel
theorem q8_2_T2 : ∀ k : Fin k0_t2_loop.trips, k0_off21 k 1#32 = ![8, min (k.val + 2 - 1) 79, 0, 128] := by
  decide +kernel
theorem s0_T2 : ∀ k : Fin k0_t2_loop.trips, k0_off13 k 4294967295#32 = ![min (k.val + 0 - 1) 79, 0, 0] := by
  decide +kernel
theorem c0_T2 : ∀ k : Fin k0_t2_loop.trips,
    Scalar.andi (Scalar.cmpi .sge (Scalar.addi (trip_k0_t2.sl.v111 k) 4294967295#32) 0#32)
      (Scalar.cmpi .slt (Scalar.addi (trip_k0_t2.sl.v111 k) 4294967295#32) 40#32)
      = if 1 ≤ k.val % 40 + 0 ∧ k.val % 40 + 0 ≤ 40 then 1#1 else 0#1 := by
  decide +kernel
theorem s1_T2 : ∀ k : Fin k0_t2_loop.trips, k0_off13 k 0#32 = ![min (k.val + 1 - 1) 79, 0, 0] := by
  decide +kernel
theorem s2_T2 : ∀ k : Fin k0_t2_loop.trips, k0_off13 k 1#32 = ![min (k.val + 2 - 1) 79, 0, 0] := by
  decide +kernel
theorem c2_T2 : ∀ k : Fin k0_t2_loop.trips,
    Scalar.andi (Scalar.cmpi .sge (Scalar.addi (trip_k0_t2.sl.v111 k) 1#32) 0#32)
      (Scalar.cmpi .slt (Scalar.addi (trip_k0_t2.sl.v111 k) 1#32) 40#32)
      = if 1 ≤ k.val % 40 + 2 ∧ k.val % 40 + 2 ≤ 40 then 1#1 else 0#1 := by
  decide +kernel
theorem c1_T2 : ∀ k : Fin k0_t2_loop.trips,
    Scalar.andi (Scalar.cmpi .sge (Scalar.addi (trip_k0_t2.sl.v111 k) 0#32) 0#32)
      (Scalar.cmpi .slt (Scalar.addi (trip_k0_t2.sl.v111 k) 0#32) 40#32) = 1#1 := by
  decide +kernel
theorem c1'_T2 : ∀ k : Fin k0_t2_loop.trips, 1 ≤ k.val % 40 + 1 ∧ k.val % 40 + 1 ≤ 40 := by
  decide +kernel
theorem v115_T2 : ∀ k : Fin k0_t2_loop.trips, trip_k0_t2.sl.v115 k
      = if 1 ≤ k.val % 40 + 0 ∧ k.val % 40 + 0 ≤ 40 then 1#1 else 0#1 := by
  decide +kernel
theorem v149_T2 : ∀ k : Fin k0_t2_loop.trips, Scalar.andi 1#1 (Scalar.cmpi .slt (trip_k0_t2.sl.v149 k) 40#32) = 1#1 := by
  decide +kernel
theorem v346_T2 : ∀ k : Fin k0_t2_loop.trips,
    Scalar.andi (Scalar.cmpi .sge (trip_k0_t2.sl.v346 k) 0#32) (Scalar.cmpi .slt (trip_k0_t2.sl.v346 k) 40#32)
      = if 1 ≤ k.val % 40 + 2 ∧ k.val % 40 + 2 ≤ 40 then 1#1 else 0#1 := by
  decide +kernel

section

variable (arg2 : Memref sig .tc .vmem S80x16x128 .f32) (arg8 : Memref sig .tc .vmem S9x80x16x256 .f32)
  (v75 v77 : Vec Ideal S1x1x128 .f32) (X2 : BufTy.Contents (Elt Ideal) arg2.view.ty)
  (X8 : BufTy.Contents (Elt Ideal) arg8.view.ty) (k : Fin k0_t2_loop.trips)

set_option backward.isDefEq.respectTransparency false in
theorem r1_T2 (w : Fin 16) (l : Fin 128) :
    trip_k0_t2.sl.r_1 (F := Ideal) arg2 arg8 X2 X8 k (ix3 (0 : Fin 1) w l) = tap (arg8.view.read (Elt Ideal) X8) (arg2.view.read (Elt Ideal) X2) 128 (by decide) k.val 0 0 w l + tap (arg8.view.read (Elt Ideal) X8) (arg2.view.read (Elt Ideal) X2) 128 (by decide) k.val 3 1 w l + tap (arg8.view.read (Elt Ideal) X8) (arg2.view.read (Elt Ideal) X2) 128 (by decide) k.val 6 1 w l := by
  unfold trip_k0_t2.sl.r_1 trip_k0_t2.sl.r trip_k0_t2.sl.v121
  rw [p51_T2, p50_T2, p49_T2]
  simp only [ldQ (lo := 128) (t := 0) (b := ⟨min (k.val + 0 - 1) 79, by omega⟩) (by decide) (q0_0_T2 k), ldQ (lo := 128) (t := 3) (b := ⟨min (k.val + 1 - 1) 79, by omega⟩) (by decide) (q3_1_T2 k), ldQ (lo := 128) (t := 6) (b := ⟨min (k.val + 1 - 1) 79, by omega⟩) (by decide) (q6_1_T2 k),
    ldS (b := ⟨min (k.val + 0 - 1) 79, by omega⟩) (s0_T2 k), ldS (b := ⟨min (k.val + 1 - 1) 79, by omega⟩) (s1_T2 k),
    c0_T2 k, c1_T2 k, c2_T2 k, v115_T2 k, v149_T2 k, v346_T2 k, select_ite, select_one, if_pos (c1'_T2 k), tap]

set_option backward.isDefEq.respectTransparency false in
theorem r3_T2 (w : Fin 16) (l : Fin 128) :
    trip_k0_t2.sl.r_3 (F := Ideal) arg2 arg8 X2 X8 k (ix3 (0 : Fin 1) w l) = tap (arg8.view.read (Elt Ideal) X8) (arg2.view.read (Elt Ideal) X2) 128 (by decide) k.val 1 0 w l + tap (arg8.view.read (Elt Ideal) X8) (arg2.view.read (Elt Ideal) X2) 128 (by decide) k.val 4 1 w l + tap (arg8.view.read (Elt Ideal) X8) (arg2.view.read (Elt Ideal) X2) 128 (by decide) k.val 7 1 w l := by
  unfold trip_k0_t2.sl.r_3 trip_k0_t2.sl.r_2
  rw [p53_T2, p52_T2]
  simp only [ldQ (lo := 128) (t := 1) (b := ⟨min (k.val + 0 - 1) 79, by omega⟩) (by decide) (q1_0_T2 k), ldQ (lo := 128) (t := 4) (b := ⟨min (k.val + 1 - 1) 79, by omega⟩) (by decide) (q4_1_T2 k), ldQ (lo := 128) (t := 7) (b := ⟨min (k.val + 1 - 1) 79, by omega⟩) (by decide) (q7_1_T2 k),
    ldS (b := ⟨min (k.val + 0 - 1) 79, by omega⟩) (s0_T2 k), ldS (b := ⟨min (k.val + 1 - 1) 79, by omega⟩) (s1_T2 k),
    c0_T2 k, c1_T2 k, c2_T2 k, v115_T2 k, v149_T2 k, v346_T2 k, select_ite, select_one, if_pos (c1'_T2 k), tap]

set_option backward.isDefEq.respectTransparency false in
theorem r4_T2 (w : Fin 16) (l : Fin 128) :
    trip_k0_t2.sl.r_4 (F := Ideal) arg2 arg8 X2 X8 k (ix3 (0 : Fin 1) w l) = tap (arg8.view.read (Elt Ideal) X8) (arg2.view.read (Elt Ideal) X2) 128 (by decide) k.val 2 0 w l + tap (arg8.view.read (Elt Ideal) X8) (arg2.view.read (Elt Ideal) X2) 128 (by decide) k.val 5 1 w l := by
  unfold trip_k0_t2.sl.r_4
  rw [p54_T2]
  simp only [ldQ (lo := 128) (t := 2) (b := ⟨min (k.val + 0 - 1) 79, by omega⟩) (by decide) (q2_0_T2 k), ldQ (lo := 128) (t := 5) (b := ⟨min (k.val + 1 - 1) 79, by omega⟩) (by decide) (q5_1_T2 k),
    ldS (b := ⟨min (k.val + 0 - 1) 79, by omega⟩) (s0_T2 k), ldS (b := ⟨min (k.val + 1 - 1) 79, by omega⟩) (s1_T2 k),
    c0_T2 k, c1_T2 k, c2_T2 k, v115_T2 k, v149_T2 k, v346_T2 k, select_ite, select_one, if_pos (c1'_T2 k), tap]

set_option backward.isDefEq.respectTransparency false in
theorem r7_T2 (w : Fin 16) (l : Fin 128) :
    trip_k0_t2.sl.r_7 (F := Ideal) arg2 arg8 X2 X8 k (ix3 (0 : Fin 1) w l) = tap (arg8.view.read (Elt Ideal) X8) (arg2.view.read (Elt Ideal) X2) 128 (by decide) k.val 0 1 w l + tap (arg8.view.read (Elt Ideal) X8) (arg2.view.read (Elt Ideal) X2) 128 (by decide) k.val 3 1 w l + tap (arg8.view.read (Elt Ideal) X8) (arg2.view.read (Elt Ideal) X2) 128 (by decide) k.val 6 2 w l := by
  unfold trip_k0_t2.sl.r_7 trip_k0_t2.sl.r_6
  rw [p57_T2, p56_T2]
  simp only [ldQ (lo := 128) (t := 0) (b := ⟨min (k.val + 1 - 1) 79, by omega⟩) (by decide) (q0_1_T2 k), ldQ (lo := 128) (t := 3) (b := ⟨min (k.val + 1 - 1) 79, by omega⟩) (by decide) (q3_1_T2 k), ldQ (lo := 128) (t := 6) (b := ⟨min (k.val + 2 - 1) 79, by omega⟩) (by decide) (q6_2_T2 k),
    ldS (b := ⟨min (k.val + 1 - 1) 79, by omega⟩) (s1_T2 k), ldS (b := ⟨min (k.val + 2 - 1) 79, by omega⟩) (s2_T2 k),
    c0_T2 k, c1_T2 k, c2_T2 k, v115_T2 k, v149_T2 k, v346_T2 k, select_ite, select_one, if_pos (c1'_T2 k), tap]

set_option backward.isDefEq.respectTransparency false in
theorem r9_T2 (w : Fin 16) (l : Fin 128) :
    trip_k0_t2.sl.r_9 (F := Ideal) arg2 arg8 X2 X8 k (ix3 (0 : Fin 1) w l) = tap (arg8.view.read (Elt Ideal) X8) (arg2.view.read (Elt Ideal) X2) 128 (by decide) k.val 1 1 w l + tap (arg8.view.read (Elt Ideal) X8) (arg2.view.read (Elt Ideal) X2) 128 (by decide) k.val 4 1 w l + tap (arg8.view.read (Elt Ideal) X8) (arg2.view.read (Elt Ideal) X2) 128 (by decide) k.val 7 2 w l := by
  unfold trip_k0_t2.sl.r_9 trip_k0_t2.sl.r_8
  rw [p59_T2, p58_T2]
  simp only [ldQ (lo := 128) (t := 1) (b := ⟨min (k.val + 1 - 1) 79, by omega⟩) (by decide) (q1_1_T2 k), ldQ (lo := 128) (t := 4) (b := ⟨min (k.val + 1 - 1) 79, by omega⟩) (by decide) (q4_1_T2 k), ldQ (lo := 128) (t := 7) (b := ⟨min (k.val + 2 - 1) 79, by omega⟩) (by decide) (q7_2_T2 k),
    ldS (b := ⟨min (k.val + 1 - 1) 79, by omega⟩) (s1_T2 k), ldS (b := ⟨min (k.val + 2 - 1) 79, by omega⟩) (s2_T2 k),
    c0_T2 k, c1_T2 k, c2_T2 k, v115_T2 k, v149_T2 k, v346_T2 k, select_ite, select_one, if_pos (c1'_T2 k), tap]

set_option backward.isDefEq.respectTransparency false in
theorem r10_T2 (w : Fin 16) (l : Fin 128) :
    trip_k0_t2.sl.r_10 (F := Ideal) arg2 arg8 X2 X8 k (ix3 (0 : Fin 1) w l) = tap (arg8.view.read (Elt Ideal) X8) (arg2.view.read (Elt Ideal) X2) 128 (by decide) k.val 2 1 w l := by
  unfold trip_k0_t2.sl.r_10
  rw [p60_T2]
  simp only [ldQ (lo := 128) (t := 2) (b := ⟨min (k.val + 1 - 1) 79, by omega⟩) (by decide) (q2_1_T2 k),
    ldS (b := ⟨min (k.val + 1 - 1) 79, by omega⟩) (s1_T2 k),
    c0_T2 k, c1_T2 k, c2_T2 k, v115_T2 k, v149_T2 k, v346_T2 k, select_ite, select_one, if_pos (c1'_T2 k), tap]

set_option backward.isDefEq.respectTransparency false in
theorem r11_T2 (w : Fin 16) (l : Fin 128) :
    trip_k0_t2.sl.r_11 (F := Ideal) arg2 arg8 X2 X8 k (ix2 w l) = tap (arg8.view.read (Elt Ideal) X8) (arg2.view.read (Elt Ideal) X2) 128 (by decide) k.val 5 1 w l := by
  unfold trip_k0_t2.sl.r_11
  rw [p61_T2]
  simp only [ldQ (lo := 128) (t := 5) (b := ⟨min (k.val + 1 - 1) 79, by omega⟩) (by decide) (q5_1_T2 k),
    ldS (b := ⟨min (k.val + 1 - 1) 79, by omega⟩) (s1_T2 k),
    c0_T2 k, c1_T2 k, c2_T2 k, v115_T2 k, v149_T2 k, v346_T2 k, select_ite, select_one, if_pos (c1'_T2 k), tap]

set_option backward.isDefEq.respectTransparency false in
/-- The even output row of trip `k`. -/
theorem pay_even_T2 (r : Fin 32) (l : Fin 128) :
    k0_pay7 (trip_k0_t2.sl.r_5 (F := Ideal) arg2 arg8 v75 v77 X2 X8 k) (ix4 (0 : Fin 1) (0 : Fin 1) r l)
      = outRow (arg8.view.read (Elt Ideal) X8) (arg2.view.read (Elt Ideal) X2) (v75 (ix3 (0 : Fin 1) (0 : Fin 1) l)) (v77 (ix3 (0 : Fin 1) (0 : Fin 1) l)) 128 (by decide) k.val 0 r l := by
  unfold trip_k0_t2.sl.r_5
  refine p55_T2 _ _ _ _ _ _ _ _ _ _ 128 (by decide) k.val _ _ (fun w => ?_) (fun w => ?_) (fun w => ?_)
  · rw [r1_T2, col_0_0]
  · rw [r3_T2, col_0_1]
  · rw [r4_T2, col_0_2]
    simp only [ldQ (lo := 128) (t := 8) (b := ⟨min (k.val + 1 - 1) 79, by omega⟩) (by decide) (q8_1_T2 k),
      ldS (b := ⟨min (k.val + 1 - 1) 79, by omega⟩) (s1_T2 k), c0_T2 k, c1_T2 k, c2_T2 k, v115_T2 k, v149_T2 k, v346_T2 k, select_ite, select_one, if_pos (c1'_T2 k), tap]

set_option backward.isDefEq.respectTransparency false in
/-- The odd output row of trip `k`. -/
theorem pay_odd_T2 (r : Fin 32) (l : Fin 128) :
    k0_pay8 v75 v77 (trip_k0_t2.sl.r_12 (F := Ideal) arg2 arg8 X2 X8 k) (trip_k0_t2.sl.r_13 (F := Ideal) arg2 arg8 v75 v77 X2 X8 k)
        (ix4 (0 : Fin 1) (0 : Fin 1) r l)
      = outRow (arg8.view.read (Elt Ideal) X8) (arg2.view.read (Elt Ideal) X2) (v75 (ix3 (0 : Fin 1) (0 : Fin 1) l)) (v77 (ix3 (0 : Fin 1) (0 : Fin 1) l)) 128 (by decide) k.val 1 r l := by
  unfold trip_k0_t2.sl.r_12 trip_k0_t2.sl.r_13
  refine p64_T2 _ _ _ _ _ _ _ _ _ _ _ 128 (by decide) k.val _ _ (fun w => ?_) (fun w => ?_) (fun w => ?_)
  · rw [r7_T2, col_1_0]
  · rw [r9_T2, col_1_1]
  · rw [p62_T2, r10_T2, r11_T2, col_1_2]
    simp only [ldQ (lo := 128) (t := 8) (b := ⟨min (k.val + 2 - 1) 79, by omega⟩) (by decide) (q8_2_T2 k),
      ldS (b := ⟨min (k.val + 2 - 1) 79, by omega⟩) (s2_T2 k), c0_T2 k, c1_T2 k, c2_T2 k, v115_T2 k, v149_T2 k, v346_T2 k, select_ite, select_one, if_pos (c1'_T2 k), tap]

end

end Cert.KernelIdeal.Hand
-- ==== Proof.KI.Loop.lean ====
/- The output rows a loop stores, read at an index: an induction over the trips. -/
module

public import proofs.«01_k».proof.Proof.KI.Pieces
public import proofs.«01_k».proof.Proof.KI.Trips1
public import proofs.«01_k».proof.Proof.KI.Trips2
public import Idealize.ShloMosaic.Lib.Pipeline.ValueKit
public import Idealize.ShloMosaic.Lib.WritesUnit

@[expose] public section
set_option maxRecDepth 16384
noncomputable section
namespace Cert.KernelIdeal.Hand
open Idealize.ShloMosaic Idealize.ShloMosaic.TcCoe Idealize.SL.Sem
open Cert.KernelIdeal Cert.KernelIdeal.Gen

/-- What a loop of 80 trips leaves where trip `k` stores rows `2 (k % 40)` and `2 (k % 40) + 1` of image `k / 40`,
    at lanes `lo … lo + 127`: the rows of the trips run so far over what was there. -/
theorem rows_read {sig : RefSig} {κ : Kind} {sp : Space} (v : View sig κ sp S2x80x32x256 .bf16) (f : v.ty.Contents (Elt Ideal))
    (lo : ℕ) (hlo : lo + 128 ≤ 256) (pb : ℕ → List (View.Piece (Elt Ideal) S2x80x32x256 .bf16)) (L : List (View.Piece (Elt Ideal) S2x80x32x256 .bf16))
    (R : ℕ → ℕ → Fin 32 → Fin 128 → EReal) (h0 : pb 0 = [])
    (hs : ∀ k : ℕ, k < 80 → ∃ (off1 off0 : Fin 4 → ℕ) (inb1 : ∀ a, off1 a + (![1, 1, 32, 128] : Fin 4 → ℕ) a ≤ S2x80x32x256.size a)
        (inb0 : ∀ a, off0 a + (![1, 1, 32, 128] : Fin 4 → ℕ) a ≤ S2x80x32x256.size a)
        (w1 w0 : S1x1x32x128.Idx → EReal),
        pb (k + 1) = ⟨Rect.unit (s := S2x80x32x256) off1 ![1, 1, 32, 128] inb1, w1⟩ :: ⟨Rect.unit (s := S2x80x32x256) off0 ![1, 1, 32, 128] inb0, w0⟩ :: pb k
        ∧ off1 = ![k / 40, 2 * (k % 40) + 1, 0, lo] ∧ off0 = ![k / 40, 2 * (k % 40) + 0, 0, lo]
        ∧ (∀ r l, w1 (ix4 0 0 r l) = R k 1 r l) ∧ (∀ r l, w0 (ix4 0 0 r l) = R k 0 r l))
    (b : Fin 2) (Y : Fin 80) (X : Fin 32) (o : Fin 256) : ∀ n : ℕ, n ≤ 80 →
    v.read (Elt Ideal) (v.writes (Elt Ideal) f (pb n ++ L)) (ix4 b Y X o)
      = if h : 40 * b.val + Y.val / 2 < n ∧ lo ≤ o.val ∧ o.val < lo + 128
        then R (40 * b.val + Y.val / 2) (Y.val % 2) X ⟨o.val - lo, by omega⟩
        else v.read (Elt Ideal) (v.writes (Elt Ideal) f L) (ix4 b Y X o) := by
  intro n
  induction n with
  | zero =>
    intro _
    rw [h0, List.nil_append, dif_neg (by omega)]
  | succ k ih =>
    intro hk
    obtain ⟨off1, off0, inb1, inb0, w1, w0, hp, ho1, ho0, hw1, hw0⟩ := hs k (by omega)
    have ih' := ih (by omega)
    rw [hp, List.cons_append, List.cons_append]
    by_cases hl : lo ≤ o.val ∧ o.val < lo + 128
    · by_cases hkk : 40 * b.val + Y.val / 2 = k
      · have hb : k / 40 = b.val := by omega
        rw [dif_pos (by omega)]
        by_cases hpar : Y.val % 2 = 1
        · refine (View.read_writes_cons_unit_of_mem v f inb1 w1 _ (ix4 b Y X o) (ix4 0 0 X ⟨o.val - lo, by omega⟩) ho1 fun a => ?_).trans ?_
          · fin_cases a
            · show b.val = k / 40 + 0; omega
            · show Y.val = 2 * (k % 40) + 1 + 0; omega
            · show X.val = 0 + X.val; omega
            · show o.val = lo + (o.val - lo); omega
          · rw [hw1]; simp only [hkk, hpar]
        · have hpar0 : Y.val % 2 = 0 := by omega
          refine (View.read_writes_cons_unit_of_not_mem v f inb1 w1 _ (ix4 b Y X o) ho1 1 (Or.inl ?_)).trans ?_
          · show Y.val < 2 * (k % 40) + 1; omega
          refine (View.read_writes_cons_unit_of_mem v f inb0 w0 _ (ix4 b Y X o) (ix4 0 0 X ⟨o.val - lo, by omega⟩) ho0 fun a => ?_).trans ?_
          · fin_cases a
            · show b.val = k / 40 + 0; omega
            · show Y.val = 2 * (k % 40) + 0 + 0; omega
            · show X.val = 0 + X.val; omega
            · show o.val = lo + (o.val - lo); omega
          · rw [hw0]; simp only [hkk, hpar0]
      · have hne : b.val ≠ k / 40 ∨ Y.val / 2 ≠ k % 40 := by omega
        have hout : ∀ e : ℕ, e ≤ 1 → (∃ a : Fin 4, ((ix4 b Y X o : S2x80x32x256.Idx) a).val < (![k / 40, 2 * (k % 40) + e, 0, lo] : Fin 4 → ℕ) a
            ∨ (![k / 40, 2 * (k % 40) + e, 0, lo] : Fin 4 → ℕ) a + (![1, 1, 32, 128] : Fin 4 → ℕ) a ≤ ((ix4 b Y X o : S2x80x32x256.Idx) a).val) := by
          intro e he
          rcases hne with hne | hne
          · refine ⟨0, ?_⟩
            show b.val < k / 40 ∨ k / 40 + 1 ≤ b.val
            omega
          · refine ⟨1, ?_⟩
            show Y.val < 2 * (k % 40) + e ∨ 2 * (k % 40) + e + 1 ≤ Y.val
            omega
        obtain ⟨a1, ha1⟩ := hout 1 le_rfl
        obtain ⟨a0, ha0⟩ := hout 0 (by omega)
        rw [View.read_writes_cons_unit_of_not_mem v f inb1 w1 _ (ix4 b Y X o) ho1 a1 ha1,
          View.read_writes_cons_unit_of_not_mem v f inb0 w0 _ (ix4 b Y X o) ho0 a0 ha0, ih']
        have hiff : (40 * b.val + Y.val / 2 < k ∧ lo ≤ o.val ∧ o.val < lo + 128) ↔ (40 * b.val + Y.val / 2 < k + 1 ∧ lo ≤ o.val ∧ o.val < lo + 128) := by omega
        by_cases hd : 40 * b.val + Y.val / 2 < k ∧ lo ≤ o.val ∧ o.val < lo + 128
        · rw [dif_pos hd, dif_pos (hiff.mp hd)]
        · rw [dif_neg hd, dif_neg (fun h => hd (hiff.mpr h))]
    · have hle : o.val < lo ∨ lo + 128 ≤ o.val := by omega
      rw [View.read_writes_cons_unit_of_not_mem v f inb1 w1 _ (ix4 b Y X o) ho1 3 hle,
        View.read_writes_cons_unit_of_not_mem v f inb0 w0 _ (ix4 b Y X o) ho0 3 hle, ih', dif_neg (by omega), dif_neg (by omega)]

set_option backward.isDefEq.respectTransparency false in
/-- The pieces of loop 1, read at an index. -/
theorem loop1_read (𝒱 : Variants) (c : Dev nD) (bd : Option 𝒱.V) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (v75 : Vec Ideal S1x1x128 .f32) (v77 : Vec Ideal S1x1x128 .f32) (X_arg2 : BufTy.Contents (Elt Ideal) arg2.view.ty) (X_arg8 : BufTy.Contents (Elt Ideal) arg8.view.ty) (f : arg6.view.ty.Contents (Elt Ideal)) (L : List (View.Piece (Elt Ideal) S2x80x32x256 .bf16))
    (b : Fin 2) (Y : Fin 80) (X : Fin 32) (o : Fin 256) :
    arg6.view.read (Elt Ideal) (arg6.view.writes (Elt Ideal) f (pb_k0_t1 (F := Ideal) 𝒱 c bd i arg1 harg1 arg2 harg2 arg3 harg3 arg4 harg4 arg5 harg5 arg6 harg6 arg7 harg7 arg8 harg8 v75 v77 X_arg2 X_arg8 k0_t1_loop.trips ++ L)) (ix4 b Y X o)
      = if h : 0 ≤ o.val ∧ o.val < 128
        then outRow (arg8.view.read (Elt Ideal) X_arg8) (arg2.view.read (Elt Ideal) X_arg2) (v75 (ix3 (0 : Fin 1) (0 : Fin 1) ⟨o.val - 0, by omega⟩)) (v77 (ix3 (0 : Fin 1) (0 : Fin 1) ⟨o.val - 0, by omega⟩)) 0 (by decide) (40 * b.val + Y.val / 2) (Y.val % 2) X ⟨o.val - 0, by omega⟩
        else arg6.view.read (Elt Ideal) (arg6.view.writes (Elt Ideal) f L) (ix4 b Y X o) := by
  have ht : k0_t1_loop.trips = 80 := by decide +kernel
  rw [ht, rows_read arg6.view f 0 (by decide) (pb_k0_t1 (F := Ideal) 𝒱 c bd i arg1 harg1 arg2 harg2 arg3 harg3 arg4 harg4 arg5 harg5 arg6 harg6 arg7 harg7 arg8 harg8 v75 v77 X_arg2 X_arg8) L
    (fun k a r l => outRow (arg8.view.read (Elt Ideal) X_arg8) (arg2.view.read (Elt Ideal) X_arg2) (v75 (ix3 (0 : Fin 1) (0 : Fin 1) l)) (v77 (ix3 (0 : Fin 1) (0 : Fin 1) l)) 0 (by decide) k a r l)
    (by rw [pb_k0_t1.eq_1]) ?_ b Y X o 80 le_rfl]
  · have hy : 40 * b.val + Y.val / 2 < 80 := by omega
    by_cases hd : 0 ≤ o.val ∧ o.val < 128
    · rw [dif_pos hd, dif_pos ⟨hy, hd⟩]
    · rw [dif_neg hd, dif_neg fun h => hd h.2]
  · intro k hk
    obtain ⟨j, rfl⟩ : ∃ j : Fin k0_t1_loop.trips, j.val = k := ⟨⟨k, by omega⟩, rfl⟩
    rw [pb_k0_t1_succ]
    unfold tripL_k0_t1 trip_k0_t1
    dsimp only
    refine ⟨_, _, _, _, _, _, rfl, st1_T1 j, st0_T1 j, fun r l => ?_, fun r l => ?_⟩
    · exact pay_odd_T1 arg2 arg8 v75 v77 X_arg2 X_arg8 j r l
    · exact pay_even_T1 arg2 arg8 v75 v77 X_arg2 X_arg8 j r l

set_option backward.isDefEq.respectTransparency false in
/-- The pieces of loop 2, read at an index. -/
theorem loop2_read (𝒱 : Variants) (c : Dev nD) (bd : Option 𝒱.V) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (v80 : Vec Ideal S1x1x128 .f32) (v82 : Vec Ideal S1x1x128 .f32) (X_arg2 : BufTy.Contents (Elt Ideal) arg2.view.ty) (X_arg8 : BufTy.Contents (Elt Ideal) arg8.view.ty) (f : arg6.view.ty.Contents (Elt Ideal)) (L : List (View.Piece (Elt Ideal) S2x80x32x256 .bf16))
    (b : Fin 2) (Y : Fin 80) (X : Fin 32) (o : Fin 256) :
    arg6.view.read (Elt Ideal) (arg6.view.writes (Elt Ideal) f (pb_k0_t2 (F := Ideal) 𝒱 c bd i arg1 harg1 arg2 harg2 arg3 harg3 arg4 harg4 arg5 harg5 arg6 harg6 arg7 harg7 arg8 harg8 v80 v82 X_arg2 X_arg8 k0_t2_loop.trips ++ L)) (ix4 b Y X o)
      = if h : 128 ≤ o.val ∧ o.val < 256
        then outRow (arg8.view.read (Elt Ideal) X_arg8) (arg2.view.read (Elt Ideal) X_arg2) (v80 (ix3 (0 : Fin 1) (0 : Fin 1) ⟨o.val - 128, by omega⟩)) (v82 (ix3 (0 : Fin 1) (0 : Fin 1) ⟨o.val - 128, by omega⟩)) 128 (by decide) (40 * b.val + Y.val / 2) (Y.val % 2) X ⟨o.val - 128, by omega⟩
        else arg6.view.read (Elt Ideal) (arg6.view.writes (Elt Ideal) f L) (ix4 b Y X o) := by
  have ht : k0_t2_loop.trips = 80 := by decide +kernel
  rw [ht, rows_read arg6.view f 128 (by decide) (pb_k0_t2 (F := Ideal) 𝒱 c bd i arg1 harg1 arg2 harg2 arg3 harg3 arg4 harg4 arg5 harg5 arg6 harg6 arg7 harg7 arg8 harg8 v80 v82 X_arg2 X_arg8) L
    (fun k a r l => outRow (arg8.view.read (Elt Ideal) X_arg8) (arg2.view.read (Elt Ideal) X_arg2) (v80 (ix3 (0 : Fin 1) (0 : Fin 1) l)) (v82 (ix3 (0 : Fin 1) (0 : Fin 1) l)) 128 (by decide) k a r l)
    (by rw [pb_k0_t2.eq_1]) ?_ b Y X o 80 le_rfl]
  · have hy : 40 * b.val + Y.val / 2 < 80 := by omega
    by_cases hd : 128 ≤ o.val ∧ o.val < 256
    · rw [dif_pos hd, dif_pos ⟨hy, hd⟩]
    · rw [dif_neg hd, dif_neg fun h => hd h.2]
  · intro k hk
    obtain ⟨j, rfl⟩ : ∃ j : Fin k0_t2_loop.trips, j.val = k := ⟨⟨k, by omega⟩, rfl⟩
    rw [pb_k0_t2_succ]
    unfold tripL_k0_t2 trip_k0_t2
    dsimp only
    refine ⟨_, _, _, _, _, _, rfl, st1_T2 j, st0_T2 j, fun r l => ?_, fun r l => ?_⟩
    · exact pay_odd_T2 arg2 arg8 v80 v82 X_arg2 X_arg8 j r l
    · exact pay_even_T2 arg2 arg8 v80 v82 X_arg2 X_arg8 j r l

/-- What the body leaves in its output block. -/
def OUTV (x1 : Vec Ideal S80x16x128 .f32) (x2 : Vec Ideal S9x256x1792 .fp8e4m3) (x3 x4 : Vec Ideal S1x1x256 .f32)
    (xs : Vec Ideal S1280x1792 .fp8e4m3) : Vec Ideal S2x80x32x256 .bf16 := fun y =>
  have h0 : (y 0).val < 2 := (y 0).isLt
  have h1 : (y 1).val < 80 := (y 1).isLt
  have h3 : (y 3).val < 256 := (y 3).isLt
  if h : (y 3).val < 128 then
    outRow (QV x2 xs) x1 (x3 (ix3 0 0 (y 3))) (x4 (ix3 0 0 (y 3))) 0 (by decide) (40 * (y 0).val + (y 1).val / 2) ((y 1).val % 2) (y 2) ⟨(y 3).val, h⟩
  else
    outRow (QV x2 xs) x1 (x3 (ix3 0 0 (y 3))) (x4 (ix3 0 0 (y 3))) 128 (by decide) (40 * (y 0).val + (y 1).val / 2) ((y 1).val % 2) (y 2)
      ⟨(y 3).val - 128, by omega⟩

theorem readS0 (a : Memref sig .tc .vmem S1x1x256 .f32) (ha : a.IsWhole) (x : Vec Ideal S1x1x256 .f32) (lo : ℕ) (hlo : lo + 128 ≤ 256)
    (inb : ∀ d, (![0, 0, lo] : Fin 3 → ℕ) d + (![1, 1, 128] : Fin 3 → ℕ) d ≤ S1x1x256.size d) (l : Fin 128) :
    (View.readAt (Elt Ideal) a.view (Rect.unit (s := S1x1x256) ![0, 0, lo] ![1, 1, 128] inb).toLoadRect (ha.unread x)
      : Vec Ideal S1x1x128 .f32) (ix3 (0 : Fin 1) (0 : Fin 1) l) = x (ix3 0 0 ⟨lo + l.val, by omega⟩) := by
  rw [View.readAt_eq_ld, ha.read_unread]
  refine View.ld_unit_apply_of x _ _ _ _ _ fun d => ?_
  fin_cases d <;> simp <;> rfl

theorem listA (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : cond0_0 i)
    (x0 : Vec Ideal S80x16x1792 .fp8e4m3) (x1 : Vec Ideal S80x16x128 .f32) (x2 : Vec Ideal S9x256x1792 .fp8e4m3) (x3 : Vec Ideal S1x1x256 .f32) (x4 : Vec Ideal S1x1x256 .f32) :
    (kernelRun0_A c i arg1 harg1 arg2 harg2 arg3 harg3 arg4 harg4 arg5 harg5 arg6 harg6 arg7 harg7 arg8 harg8 hc0 x0 x1 x2 x3 x4).1.1 = pb_k0_t2 (F := Ideal) Variants.none c none i arg1 harg1 arg2 harg2 arg3 harg3 arg4 harg4 arg5 harg5 arg6 harg6 arg7 harg7 arg8 harg8 (View.readAt (Elt Ideal) arg4.view (Rect.unit (s := S1x1x256) ![0, 0, 128] ![1, 1, 128] inb_S1x1x256_S1x1x128_0_0_128).toLoadRect (harg4.unread x3)) (View.readAt (Elt Ideal) arg5.view (Rect.unit (s := S1x1x256) ![0, 0, 128] ![1, 1, 128] inb_S1x1x256_S1x1x128_0_0_128).toLoadRect (harg5.unread x4)) (harg2.unread x1) (arg8.view.writes (Elt Ideal) arg8.view.junk (kernelRun0_A.sl.HS1_9 (F := Ideal) c arg1 harg1 arg3 harg3 arg7 x0 x2)) k0_t2_loop.trips ++ (pb_k0_t1 (F := Ideal) Variants.none c none i arg1 harg1 arg2 harg2 arg3 harg3 arg4 harg4 arg5 harg5 arg6 harg6 arg7 harg7 arg8 harg8 (View.readAt (Elt Ideal) arg4.view (Rect.unit (s := S1x1x256) ![0, 0, 0] ![1, 1, 128] inb_S1x1x256_S1x1x128_0_0_0).toLoadRect (harg4.unread x3)) (View.readAt (Elt Ideal) arg5.view (Rect.unit (s := S1x1x256) ![0, 0, 0] ![1, 1, 128] inb_S1x1x256_S1x1x128_0_0_0).toLoadRect (harg5.unread x4)) (harg2.unread x1) (arg8.view.writes (Elt Ideal) arg8.view.junk (kernelRun0_A.sl.HS1_9 (F := Ideal) c arg1 harg1 arg3 harg3 arg7 x0 x2)) k0_t1_loop.trips ++ []) := by
  rw [List.append_nil]
  unfold kernelRun0_A
  rfl

/-- The output block after the body at the first grid point, whatever it held before. -/
theorem outA (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : cond0_0 i)
    (x0 : Vec Ideal S80x16x1792 .fp8e4m3) (x1 : Vec Ideal S80x16x128 .f32) (x2 : Vec Ideal S9x256x1792 .fp8e4m3) (x3 : Vec Ideal S1x1x256 .f32) (x4 : Vec Ideal S1x1x256 .f32)
    (f : arg6.view.ty.Contents (Elt Ideal)) :
    arg6.view.read (Elt Ideal) (arg6.view.writes (Elt Ideal) f (kernelRun0_A c i arg1 harg1 arg2 harg2 arg3 harg3 arg4 harg4 arg5 harg5 arg6 harg6 arg7 harg7 arg8 harg8 hc0 x0 x1 x2 x3 x4).1.1) = OUTV x1 x2 x3 x4 (XS x0) := by
  have hq : arg8.view.read (Elt Ideal) (arg8.view.writes (Elt Ideal) arg8.view.junk (kernelRun0_A.sl.HS1_9 (F := Ideal) c arg1 harg1 arg3 harg3 arg7 x0 x2)) = QV x2 (XS x0) := by
    rw [View.read_writes_junk_eq_canon]
    exact funext fun y => canon9A c arg1 harg1 arg3 harg3 arg7 x0 x2 y
  rw [listA]
  funext y
  obtain ⟨b, Y, X, o, rfl⟩ : ∃ (b : Fin 2) (Y : Fin 80) (X : Fin 32) (o : Fin 256), y = ix4 b Y X o := ⟨y 0, y 1, y 2, y 3, (ix4_eta y).symm⟩
  rw [loop2_read, loop1_read, hq, harg2.read_unread]
  by_cases hl : o.val < 128
  · rw [dif_neg (by omega), dif_pos (by omega)]
    refine Eq.trans ?_ (dif_pos hl).symm
    rw [readS0 arg4 harg4 x3 0 (by decide), readS0 arg5 harg5 x4 0 (by decide)]
    simp only [Nat.zero_add, Nat.sub_zero]
    rfl
  · rw [dif_pos (by omega)]
    refine Eq.trans ?_ (dif_neg hl).symm
    rw [readS0 arg4 harg4 x3 128 (by decide), readS0 arg5 harg5 x4 128 (by decide)]
    have e : (⟨128 + (o.val - 128), by omega⟩ : Fin 256) = o := Fin.ext (show 128 + (o.val - 128) = o.val by omega)
    simp only [e]
    rfl

theorem listB (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : ¬cond0_0 i)
    (x0 : Vec Ideal S80x16x1792 .fp8e4m3) (x1 : Vec Ideal S80x16x128 .f32) (x2 : Vec Ideal S9x256x1792 .fp8e4m3) (x3 : Vec Ideal S1x1x256 .f32) (x4 : Vec Ideal S1x1x256 .f32) (xs0 : Vec Ideal S1280x1792 .fp8e4m3) :
    (kernelRun0_B c i arg1 harg1 arg2 harg2 arg3 harg3 arg4 harg4 arg5 harg5 arg6 harg6 arg7 harg7 arg8 harg8 hc0 x0 x1 x2 x3 x4 xs0).1 = pb_k0_t2 (F := Ideal) Variants.none c none i arg1 harg1 arg2 harg2 arg3 harg3 arg4 harg4 arg5 harg5 arg6 harg6 arg7 harg7 arg8 harg8 (View.readAt (Elt Ideal) arg4.view (Rect.unit (s := S1x1x256) ![0, 0, 128] ![1, 1, 128] inb_S1x1x256_S1x1x128_0_0_128).toLoadRect (harg4.unread x3)) (View.readAt (Elt Ideal) arg5.view (Rect.unit (s := S1x1x256) ![0, 0, 128] ![1, 1, 128] inb_S1x1x256_S1x1x128_0_0_128).toLoadRect (harg5.unread x4)) (harg2.unread x1) (arg8.view.writes (Elt Ideal) arg8.view.junk (kernelRun0_B.sl.HS1_9 (F := Ideal) c arg3 harg3 arg7 harg7 x2 xs0)) k0_t2_loop.trips ++ (pb_k0_t1 (F := Ideal) Variants.none c none i arg1 harg1 arg2 harg2 arg3 harg3 arg4 harg4 arg5 harg5 arg6 harg6 arg7 harg7 arg8 harg8 (View.readAt (Elt Ideal) arg4.view (Rect.unit (s := S1x1x256) ![0, 0, 0] ![1, 1, 128] inb_S1x1x256_S1x1x128_0_0_0).toLoadRect (harg4.unread x3)) (View.readAt (Elt Ideal) arg5.view (Rect.unit (s := S1x1x256) ![0, 0, 0] ![1, 1, 128] inb_S1x1x256_S1x1x128_0_0_0).toLoadRect (harg5.unread x4)) (harg2.unread x1) (arg8.view.writes (Elt Ideal) arg8.view.junk (kernelRun0_B.sl.HS1_9 (F := Ideal) c arg3 harg3 arg7 harg7 x2 xs0)) k0_t1_loop.trips ++ []) := by
  rw [List.append_nil]
  unfold kernelRun0_B
  rfl

/-- The output block after the body, whatever it held before. -/
theorem outB (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : ¬cond0_0 i)
    (x0 : Vec Ideal S80x16x1792 .fp8e4m3) (x1 : Vec Ideal S80x16x128 .f32) (x2 : Vec Ideal S9x256x1792 .fp8e4m3) (x3 : Vec Ideal S1x1x256 .f32) (x4 : Vec Ideal S1x1x256 .f32) (xs0 : Vec Ideal S1280x1792 .fp8e4m3)
    (f : arg6.view.ty.Contents (Elt Ideal)) :
    arg6.view.read (Elt Ideal) (arg6.view.writes (Elt Ideal) f (kernelRun0_B c i arg1 harg1 arg2 harg2 arg3 harg3 arg4 harg4 arg5 harg5 arg6 harg6 arg7 harg7 arg8 harg8 hc0 x0 x1 x2 x3 x4 xs0).1) = OUTV x1 x2 x3 x4 xs0 := by
  have hq : arg8.view.read (Elt Ideal) (arg8.view.writes (Elt Ideal) arg8.view.junk (kernelRun0_B.sl.HS1_9 (F := Ideal) c arg3 harg3 arg7 harg7 x2 xs0)) = QV x2 xs0 := by
    rw [View.read_writes_junk_eq_canon]
    exact funext fun y => canon9B c arg3 harg3 arg7 harg7 x2 xs0 y
  rw [listB]
  funext y
  obtain ⟨b, Y, X, o, rfl⟩ : ∃ (b : Fin 2) (Y : Fin 80) (X : Fin 32) (o : Fin 256), y = ix4 b Y X o := ⟨y 0, y 1, y 2, y 3, (ix4_eta y).symm⟩
  rw [loop2_read, loop1_read, hq, harg2.read_unread]
  by_cases hl : o.val < 128
  · rw [dif_neg (by omega), dif_pos (by omega)]
    refine Eq.trans ?_ (dif_pos hl).symm
    rw [readS0 arg4 harg4 x3 0 (by decide), readS0 arg5 harg5 x4 0 (by decide)]
    simp only [Nat.zero_add, Nat.sub_zero]
    rfl
  · rw [dif_pos (by omega)]
    refine Eq.trans ?_ (dif_neg hl).symm
    rw [readS0 arg4 harg4 x3 128 (by decide), readS0 arg5 harg5 x4 128 (by decide)]
    have e : (⟨128 + (o.val - 128), by omega⟩ : Fin 256) = o := Fin.ext (show 128 + (o.val - 128) = o.val by omega)
    simp only [e]
    rfl

end Cert.KernelIdeal.Hand
-- ==== Proof.KI.Frame.lean ====
/- The idealized kernel around its one pipelined region: what every window and the kept scratch hold after each grid
   point, the body's obligation, and the run. -/
module

public import proofs.«01_k».proof.Proof.KI.Loop
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The first grid point. -/
def t00 : Fin cfg0.N := ⟨0, by have h : cfg0.N = 5 := N_0; omega⟩

/-- The kept copy of the activations, from the first grid point on. -/
def xsv (c : Dev nD) : Vec Ideal S1280x1792 .fp8e4m3 := XS (iblk m c 0 t00)

/-- What the output window holds after a grid point. -/
def outv (c : Dev nD) (t : Fin cfg0.N) : Vec Ideal S2x80x32x256 .bf16 :=
  OUTV (iblk m c 1 t) (iblk m c 2 t) (iblk m c 3 t) (iblk m c 4 t) (xsv m c)

theorem scr0_A (c : Dev nD) (i : grid0.Coords) (arg1 : Memref sig .tc .vmem S80x16x1792 .fp8e4m3) (harg1 : arg1.IsWhole) (arg2 : Memref sig .tc .vmem S80x16x128 .f32) (harg2 : arg2.IsWhole) (arg3 : Memref sig .tc .vmem S9x256x1792 .fp8e4m3) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S2x80x32x256 .bf16) (harg6 : arg6.IsWhole) (arg7 : Memref sig .tc .vmem S1280x1792 .fp8e4m3) (harg7 : arg7.IsWhole) (arg8 : Memref sig .tc .vmem S9x80x16x256 .f32) (harg8 : arg8.IsWhole) (hc0 : cond0_0 i)
    (x0 : Vec Ideal S80x16x1792 .fp8e4m3) (x1 : Vec Ideal S80x16x128 .f32) (x2 : Vec Ideal S9x256x1792 .fp8e4m3) (x3 : Vec Ideal S1x1x256 .f32) (x4 : Vec Ideal S1x1x256 .f32)
    (f : arg7.view.ty.Contents (Elt Ideal)) :
    arg7.view.read (Elt Ideal) (arg7.view.writes (Elt Ideal) f (kernelRun0_A c i arg1 harg1 arg2 harg2 arg3 harg3 arg4 harg4 arg5 harg5 arg6 harg6 arg7 harg7 arg8 harg8 hc0 x0 x1 x2 x3 x4).1.2) = XS x0 := by
  have e : (kernelRun0_A c i arg1 harg1 arg2 harg2 arg3 harg3 arg4 harg4 arg5 harg5 arg6 harg6 arg7 harg7 arg8 harg8 hc0 x0 x1 x2 x3 x4).1.2 = kernelRun0_A.sl.HS0_40 (F := Ideal) c arg1 harg1 x0 := by
    unfold kernelRun0_A
    rfl
  rw [e, View.read_writes_of_cover _ _ arg7.view arg7.view.junk _
    (View.cover_of_tiledL (kernelRun0_A.sl.HS0_40 (F := Ideal) c arg1 harg1 x0) S32x1792.size (by sl_kernel_rfl)), View.read_writes_junk_eq_canon]
  exact funext fun y => canon40 c arg1 harg1 x0 y

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare (xsv m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (xsv m c) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (xsv m c) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases hz : t.val = 0
    · rw [PhiS_castSucc m c t, PhiS_zero m c _ _ hz, PhiA0_eq]
      have ht : t = t00 := Fin.ext hz
      have hx : XS (iblk m c 0 t) = xsv m c := by rw [ht]; rfl
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, HS1⟩
      isplitl [HS0 HS1 Hg]
      · isplitl [HS0 HS1]
        · isplitl [HS0]
          · unfold owns; iexists _; isplitr
            swap; · iexact HS0
            ipureintro; exact (scr0_A c _ _ _ _ _ _ _ _ _ _ _ _ _ _ _ _ _ _ _ _ _ _ _ _).trans hx
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact (outA c _ _ _ _ _ _ _ _ _ _ _ _ _ _ _ _ _ _ _ _ _ _ _ _).trans (by rw [hx]; rfl)
    · exfalso; have hN : t.val < 5 := lt_of_lt_of_eq t.isLt (show cfg0.N = 5 from N_0); omega
  · by_cases hz : t.val = 0
    · exfalso; have hN : t.val < 5 := lt_of_lt_of_eq t.isLt (show cfg0.N = 5 from N_0); omega
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact outB c _ _ _ _ _ _ _ _ _ _ _ _ _ _ _ _ _ _ _ _ _ _ _ _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

set_option backward.isDefEq.respectTransparency.types false in
set_option maxHeartbeats 800000 in
/-- The run: the arrays end at what the proof data says, the trailing host line's buffer follows, and every semaphore
    counter is zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.KernelIdeal.Hand
-- ==== Proof.KI.Blocks.lean ====
/- The blocks the idealized kernel reads, over its arguments. -/
module

public import proofs.«01_k».proof.Proof.KI.Frame
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Cert.KernelIdeal Cert.KernelIdeal.Gen
variable (m : (ℓ : Loc nD τ sig) → Buf (Elt Ideal) ℓ)

theorem idx : ∀ t : Fin cfg0.N, win0_0.index t = ![0, 0, 0] ∧ win0_1.index t = ![0, 0, 0] ∧ win0_2.index t = ![0, t.val, 0]
    ∧ win0_3.index t = ![t.val, 0, 0] ∧ win0_4.index t = ![t.val, 0, 0] ∧ win0_5.index t = ![0, 0, 0, t.val] :=
  (by decide +kernel : ∀ t : Fin grid0.N, _)

theorem V_v1 (c : Dev nD) (r : Fin 80) (w : Fin 16) (k : Fin 1792) :
    (V m c main_v1 : S80x16x1792.Idx → EReal) (ix3 r w k) = (m ((c : Thread nD τ).loc main_arg0) : S2x1792x40x16.Idx → EReal) (ix4 ⟨r.val / 40, by omega⟩ k ⟨r.val % 40, by omega⟩ w) := by
  show StableHlo.after hostOps0 _ _ _ = _
  after_results
  pointwise

theorem V_v5 (c : Dev nD) (r : Fin 80) (w : Fin 16) (l : Fin 128) :
    (V m c main_v5 : S80x16x128.Idx → EReal) (ix3 r w l) = (m ((c : Thread nD τ).loc main_arg1) : S2x40x16.Idx → EReal) (ix3 ⟨r.val / 40, by omega⟩ ⟨r.val % 40, by omega⟩ w) := by
  show StableHlo.after hostOps0 _ _ _ = _
  after_results
  pointwise

theorem V_v7 (c : Dev nD) (t : Fin 9) (o : Fin 1280) (k : Fin 1792) :
    (V m c main_v7 : S9x1280x1792.Idx → EReal) (ix3 t o k) = (m ((c : Thread nD τ).loc main_arg2) : S1280x1792x3x3.Idx → EReal) (ix4 o k ⟨t.val / 3, by omega⟩ ⟨t.val % 3, by omega⟩) := by
  show StableHlo.after hostOps0 _ _ _ = _
  after_results
  pointwise

theorem V_v8 (c : Dev nD) (n : Fin 5) (l : Fin 256) :
    (V m c main_v8 : S5x1x256.Idx → EReal) (ix3 n (0 : Fin 1) l) = (m ((c : Thread nD τ).loc main_arg3) : S1280.Idx → EReal) (ix1 ⟨n.val * 256 + l.val, by omega⟩) := by
  show StableHlo.after hostOps0 _ _ _ = _
  after_results
  pointwise

theorem V_v9 (c : Dev nD) (n : Fin 5) (l : Fin 256) :
    (V m c main_v9 : S5x1x256.Idx → EReal) (ix3 n (0 : Fin 1) l) = (m ((c : Thread nD τ).loc main_arg4) : S1280.Idx → EReal) (ix1 ⟨n.val * 256 + l.val, by omega⟩) := by
  show StableHlo.after hostOps0 _ _ _ = _
  after_results
  pointwise

theorem tlt (t : Fin cfg0.N) : t.val < 5 := lt_of_lt_of_eq t.isLt (show cfg0.N = 5 from N_0)

theorem b0 (c : Dev nD) (t : Fin cfg0.N) : (iblk m c 0 t : S80x16x1792.Idx → EReal) = V m c main_v1 := by
  blk_ext! [iblk, idx t]
theorem b1 (c : Dev nD) (t : Fin cfg0.N) : (iblk m c 1 t : S80x16x128.Idx → EReal) = V m c main_v5 := by
  blk_ext! [iblk, idx t]
theorem b2 (c : Dev nD) (t : Fin cfg0.N) (u : Fin 9) (o : Fin 256) (k : Fin 1792) :
    (iblk m c 2 t : S9x256x1792.Idx → EReal) (ix3 u o k) = (V m c main_v7 : S9x1280x1792.Idx → EReal) (ix3 u ⟨t.val * 256 + o.val, by have := tlt t; omega⟩ k) := by
  blk_ext [iblk, idx t]
theorem b3 (c : Dev nD) (t : Fin cfg0.N) (o : Fin 256) :
    (iblk m c 3 t : S1x1x256.Idx → EReal) (ix3 0 0 o) = (V m c main_v8 : S5x1x256.Idx → EReal) (ix3 ⟨t.val, tlt t⟩ 0 o) := by
  blk_ext [iblk, idx t]
theorem b4 (c : Dev nD) (t : Fin cfg0.N) (o : Fin 256) :
    (iblk m c 4 t : S1x1x256.Idx → EReal) (ix3 0 0 o) = (V m c main_v9 : S5x1x256.Idx → EReal) (ix3 ⟨t.val, tlt t⟩ 0 o) := by
  blk_ext [iblk, idx t]

end Cert.KernelIdeal.Hand
-- ==== Proof.Spec.lean ====
module

public import Idealize.ShloMosaic.Lib.Pipeline.ValueKit

@[expose] public section
noncomputable section
namespace Cert.Spec

/-! The result both programs compute: a 3×3 convolution of the doubled image, tap by tap.

Row `Y` and column `X` of the doubled image under the tap `(dy, dx)` come from row `Y / 2 + (Y % 2 + dy + 1) / 2 - 1` and
column `X / 2 + (X % 2 + dx + 1) / 2 - 1` of the image, where they lie in it, and count nothing where they do not. -/

/-- One tap of the convolution: the sum over the input channels, times the scale of the pixel it reads. -/
def tap (x : Fin 2 → Fin 1792 → Fin 40 → Fin 16 → EReal) (s : Fin 2 → Fin 40 → Fin 16 → EReal)
    (w : Fin 1280 → Fin 1792 → Fin 3 → Fin 3 → EReal) (b : Fin 2) (o : Fin 1280) (Y : Fin 80) (X : Fin 32) (dy dx : Fin 3) : EReal :=
  if (1 ≤ X.val / 2 + (X.val % 2 + dx.val + 1) / 2 ∧ X.val / 2 + (X.val % 2 + dx.val + 1) / 2 ≤ 16)
      ∧ (1 ≤ Y.val / 2 + (Y.val % 2 + dy.val + 1) / 2 ∧ Y.val / 2 + (Y.val % 2 + dy.val + 1) / 2 ≤ 40) then
    (∑ c : Fin 1792, x b c ⟨min (Y.val / 2 + (Y.val % 2 + dy.val + 1) / 2 - 1) 39, by omega⟩
        ⟨min (X.val / 2 + (X.val % 2 + dx.val + 1) / 2 - 1) 15, by omega⟩ * w o c dy dx)
      * s b ⟨min (Y.val / 2 + (Y.val % 2 + dy.val + 1) / 2 - 1) 39, by omega⟩
        ⟨min (X.val / 2 + (X.val % 2 + dx.val + 1) / 2 - 1) 15, by omega⟩
  else 0

/-- The nine taps, column by column, then the scale of the output channel and its bias. -/
def conv (x : Fin 2 → Fin 1792 → Fin 40 → Fin 16 → EReal) (s : Fin 2 → Fin 40 → Fin 16 → EReal)
    (w : Fin 1280 → Fin 1792 → Fin 3 → Fin 3 → EReal) (ws bi : Fin 1280 → EReal) (b : Fin 2) (o : Fin 1280) (Y : Fin 80) (X : Fin 32) : EReal :=
  ((tap x s w b o Y X 0 0 + tap x s w b o Y X 1 0 + tap x s w b o Y X 2 0)
    + (tap x s w b o Y X 0 1 + tap x s w b o Y X 1 1 + tap x s w b o Y X 2 1)
    + (tap x s w b o Y X 0 2 + tap x s w b o Y X 1 2 + tap x s w b o Y X 2 2)) * ws o + bi o

end Cert.Spec
-- ==== Proof.KI.Taps.lean ====
module

public import proofs.«01_k».proof.Proof.KI.Rows
public import proofs.«01_k».proof.Proof.Spec

@[expose] public section
set_option maxRecDepth 16384
noncomputable section
namespace Cert.KernelIdeal.Hand
open Idealize.ShloMosaic Idealize.ShloMosaic.TcCoe Idealize.SL.Sem
open Cert.KernelIdeal Cert.KernelIdeal.Gen

/-! The rows of the kernel's output are the convolution. -/

section
variable (q : S9x80x16x256.Idx → EReal) (s : S80x16x128.Idx → EReal) (lo : ℕ) (hlo : lo + 128 ≤ 256)
variable (x : Fin 2 → Fin 1792 → Fin 40 → Fin 16 → EReal) (sc : Fin 2 → Fin 40 → Fin 16 → EReal)
variable (w : Fin 1280 → Fin 1792 → Fin 3 → Fin 3 → EReal) (o : Fin 1280) (l : Fin 128)

/-- A tap of the kernel, where its column lies in the image, is a tap of the convolution. -/
theorem tap_spec
    (hq : ∀ (t : Fin 9) (r : Fin 80) (v : Fin 16), q (ix4 t r v ⟨lo + l.val, by omega⟩)
      = ∑ c : Fin 1792, x ⟨r.val / 40, by omega⟩ c ⟨r.val % 40, by omega⟩ v * w o c ⟨t.val / 3, by omega⟩ ⟨t.val % 3, by omega⟩)
    (hs : ∀ (r : Fin 80) (v : Fin 16), s (ix3 r v l) = sc ⟨r.val / 40, by omega⟩ ⟨r.val % 40, by omega⟩ v)
    (b : Fin 2) (Y : Fin 80) (X : Fin 32) (dy dx : Fin 3) (t : Fin 9) (ht : t.val = 3 * dy.val + dx.val)
    (hX : 1 ≤ X.val / 2 + (X.val % 2 + dx.val + 1) / 2 ∧ X.val / 2 + (X.val % 2 + dx.val + 1) / 2 ≤ 16) :
    tap q s lo hlo (40 * b.val + Y.val / 2) t ((Y.val % 2 + dy.val + 1) / 2)
      ⟨min (X.val / 2 + (X.val % 2 + dx.val + 1) / 2 - 1) 15, by omega⟩ l = Spec.tap x sc w b o Y X dy dx := by
  have hk : (40 * b.val + Y.val / 2) % 40 = Y.val / 2 := by omega
  unfold tap Spec.tap
  simp only [hk, hX, true_and]
  by_cases hY : 1 ≤ Y.val / 2 + (Y.val % 2 + dy.val + 1) / 2 ∧ Y.val / 2 + (Y.val % 2 + dy.val + 1) / 2 ≤ 40
  · rw [if_pos hY, if_pos hY, hq, hs]
    have e1 : (⟨min (40 * b.val + Y.val / 2 + (Y.val % 2 + dy.val + 1) / 2 - 1) 79 / 40, by omega⟩ : Fin 2) = b :=
      Fin.ext (by show min (40 * b.val + Y.val / 2 + (Y.val % 2 + dy.val + 1) / 2 - 1) 79 / 40 = b.val; omega)
    have e2 : (⟨min (40 * b.val + Y.val / 2 + (Y.val % 2 + dy.val + 1) / 2 - 1) 79 % 40, by omega⟩ : Fin 40)
        = ⟨min (Y.val / 2 + (Y.val % 2 + dy.val + 1) / 2 - 1) 39, by omega⟩ :=
      Fin.ext (by
        show min (40 * b.val + Y.val / 2 + (Y.val % 2 + dy.val + 1) / 2 - 1) 79 % 40
          = min (Y.val / 2 + (Y.val % 2 + dy.val + 1) / 2 - 1) 39
        omega)
    have e3 : (⟨t.val / 3, by omega⟩ : Fin 3) = dy := Fin.ext (by show t.val / 3 = dy.val; omega)
    have e4 : (⟨t.val % 3, by omega⟩ : Fin 3) = dx := Fin.ext (by show t.val % 3 = dx.val; omega)
    simp only [e1, e2, e3, e4]
  · rw [if_neg hY, if_neg hY]

/-- Outside the image a tap of the convolution counts nothing. -/
theorem tap_out (b : Fin 2) (Y : Fin 80) (X : Fin 32) (dy dx : Fin 3)
    (hX : ¬(1 ≤ X.val / 2 + (X.val % 2 + dx.val + 1) / 2 ∧ X.val / 2 + (X.val % 2 + dx.val + 1) / 2 ≤ 16)) :
    Spec.tap x sc w b o Y X dy dx = 0 := by
  unfold Spec.tap
  rw [if_neg fun h => hX h.1]

theorem colAt_spec
    (hq : ∀ (t : Fin 9) (r : Fin 80) (v : Fin 16), q (ix4 t r v ⟨lo + l.val, by omega⟩)
      = ∑ c : Fin 1792, x ⟨r.val / 40, by omega⟩ c ⟨r.val % 40, by omega⟩ v * w o c ⟨t.val / 3, by omega⟩ ⟨t.val % 3, by omega⟩)
    (hs : ∀ (r : Fin 80) (v : Fin 16), s (ix3 r v l) = sc ⟨r.val / 40, by omega⟩ ⟨r.val % 40, by omega⟩ v)
    (b : Fin 2) (Y : Fin 80) (X : Fin 32) (dx : Fin 3) :
    colAt q s lo hlo (40 * b.val + Y.val / 2) (Y.val % 2) dx ⟨X.val / 2, by omega⟩ ((X.val % 2 + dx.val + 1) / 2) l
      = Spec.tap x sc w b o Y X 0 dx + Spec.tap x sc w b o Y X 1 dx + Spec.tap x sc w b o Y X 2 dx := by
  unfold colAt
  by_cases hX : 1 ≤ X.val / 2 + (X.val % 2 + dx.val + 1) / 2 ∧ X.val / 2 + (X.val % 2 + dx.val + 1) / 2 ≤ 16
  · refine (if_pos hX).trans ?_
    unfold col
    refine congr (congrArg HAdd.hAdd (congr (congrArg HAdd.hAdd ?_) ?_)) ?_
    · exact tap_spec q s lo hlo x sc w o l hq hs b Y X 0 dx _ (by show dx.val = 3 * 0 + dx.val; omega) hX
    · exact tap_spec q s lo hlo x sc w o l hq hs b Y X 1 dx _ (by show 3 + dx.val = 3 * 1 + dx.val; omega) hX
    · exact tap_spec q s lo hlo x sc w o l hq hs b Y X 2 dx _ (by show 6 + dx.val = 3 * 2 + dx.val; omega) hX
  · refine (if_neg hX).trans ?_
    rw [tap_out x sc w o b Y X 0 dx hX, tap_out x sc w o b Y X 1 dx hX, tap_out x sc w o b Y X 2 dx hX]
    simp

theorem outRow_spec (ws bi : Fin 1280 → EReal)
    (hq : ∀ (t : Fin 9) (r : Fin 80) (v : Fin 16), q (ix4 t r v ⟨lo + l.val, by omega⟩)
      = ∑ c : Fin 1792, x ⟨r.val / 40, by omega⟩ c ⟨r.val % 40, by omega⟩ v * w o c ⟨t.val / 3, by omega⟩ ⟨t.val % 3, by omega⟩)
    (hs : ∀ (r : Fin 80) (v : Fin 16), s (ix3 r v l) = sc ⟨r.val / 40, by omega⟩ ⟨r.val % 40, by omega⟩ v)
    (b : Fin 2) (Y : Fin 80) (X : Fin 32) :
    outRow q s (ws o) (bi o) lo hlo (40 * b.val + Y.val / 2) (Y.val % 2) X l = Spec.conv x sc w ws bi b o Y X := by
  unfold outRow Spec.conv
  have h0 := colAt_spec q s lo hlo x sc w o l hq hs b Y X 0
  have h1 := colAt_spec q s lo hlo x sc w o l hq hs b Y X 1
  have h2 := colAt_spec q s lo hlo x sc w o l hq hs b Y X 2
  exact congrArg (fun z : EReal => z * ws o + bi o) (congr (congrArg HAdd.hAdd (congr (congrArg HAdd.hAdd h0) h1)) h2)

end

end Cert.KernelIdeal.Hand
-- ==== Proof.KI.Value.lean ====
module

public import proofs.«01_k».proof.Proof.KI.Blocks
public import proofs.«01_k».proof.Proof.KI.Taps
public import Idealize.ShloMosaic.Lib.Pipeline.ValueKit

@[expose] public section
set_option maxRecDepth 16384
noncomputable section
namespace Cert.KernelIdeal.Hand
open Idealize.ShloMosaic Idealize.ShloMosaic.TcCoe Idealize.SL.Sem
open Idealize.ShloMosaic.Pipeline Cert.KernelIdeal Cert.KernelIdeal.Gen
/-! The kernel's output array is the convolution of its arguments. -/

variable (m : (ℓ : Loc nD τ sig) → Buf (Elt Ideal) ℓ)

/-- The image. -/
def aX (c : Dev nD) : Fin 2 → Fin 1792 → Fin 40 → Fin 16 → EReal := fun b k i j => (m ((c : Thread nD τ).loc main_arg0) : S2x1792x40x16.Idx → EReal) (ix4 b k i j)
/-- The scale of each pixel. -/
def aS (c : Dev nD) : Fin 2 → Fin 40 → Fin 16 → EReal := fun b i j => (m ((c : Thread nD τ).loc main_arg1) : S2x40x16.Idx → EReal) (ix3 b i j)
/-- The weights. -/
def aW (c : Dev nD) : Fin 1280 → Fin 1792 → Fin 3 → Fin 3 → EReal := fun o k i j => (m ((c : Thread nD τ).loc main_arg2) : S1280x1792x3x3.Idx → EReal) (ix4 o k i j)
/-- The scale of each output channel. -/
def aWs (c : Dev nD) : Fin 1280 → EReal := fun o => (m ((c : Thread nD τ).loc main_arg3) : S1280.Idx → EReal) (ix1 o)
/-- The bias of each output channel. -/
def aB (c : Dev nD) : Fin 1280 → EReal := fun o => (m ((c : Thread nD τ).loc main_arg4) : S1280.Idx → EReal) (ix1 o)

/-- The output array of the region. -/
def RES (c : Dev nD) : S2x80x32x1280.Idx → EReal := fun y =>
  Spec.conv (aX m c) (aS m c) (aW m c) (aWs m c) (aB m c) (y 0) (y 3) (y 1) (y 2)

theorem QV_read (c : Dev nD) (t : Fin cfg0.N) (u : Fin 9) (r : Fin 80) (v : Fin 16) (l : Fin 256) :
    QV (iblk m c 2 t) (xsv m c) (ix4 u r v l)
      = ∑ k : Fin 1792, aX m c ⟨r.val / 40, by omega⟩ k ⟨r.val % 40, by omega⟩ v * aW m c ⟨t.val * 256 + l.val, by have := tlt t; omega⟩ k ⟨u.val / 3, by omega⟩ ⟨u.val % 3, by omega⟩ := by
  refine Finset.sum_congr rfl fun k _ => congr (congrArg HMul.hMul ?_) ?_
  · refine (congrFun (b0 m c t00) _).trans ?_
    refine Eq.trans ?_ (V_v1 m c r v k)
    refine congrArg _ ?_
    have e1 : (⟨(r.val * 16 + v.val) / 16, by omega⟩ : Fin 80) = r := Fin.ext (by show (r.val * 16 + v.val) / 16 = r.val; omega)
    have e2 : (⟨(r.val * 16 + v.val) % 16, by omega⟩ : Fin 16) = v := Fin.ext (by show (r.val * 16 + v.val) % 16 = v.val; omega)
    have e3 : (ix3 (⟨(r.val * 16 + v.val) / 16, by omega⟩ : Fin 80) (⟨(r.val * 16 + v.val) % 16, by omega⟩ : Fin 16) k : S80x16x1792.Idx) = ix3 r v k := by rw [e1, e2]
    exact e3
  · exact (b2 m c t u l k).trans (V_v7 m c u ⟨t.val * 256 + l.val, by have := tlt t; omega⟩ k)

theorem outv_read (c : Dev nD) (t : Fin cfg0.N) (b : Fin 2) (Y : Fin 80) (X : Fin 32) (l : Fin 256) :
    outv m c t (ix4 b Y X l) = RES m c (ix4 b Y X ⟨t.val * 256 + l.val, by have := tlt t; omega⟩) := by
  have hs : ∀ (l : Fin 128) (r : Fin 80) (v : Fin 16), (iblk m c 1 t : S80x16x128.Idx → EReal) (ix3 r v l) = aS m c ⟨r.val / 40, by omega⟩ ⟨r.val % 40, by omega⟩ v :=
    fun l r v => (congrFun (b1 m c t) _).trans (V_v5 m c r v l)
  have h3 : (iblk m c 3 t : S1x1x256.Idx → EReal) (ix3 0 0 l) = aWs m c ⟨t.val * 256 + l.val, by have := tlt t; omega⟩ := (b3 m c t l).trans (V_v8 m c ⟨t.val, tlt t⟩ l)
  have h4 : (iblk m c 4 t : S1x1x256.Idx → EReal) (ix3 0 0 l) = aB m c ⟨t.val * 256 + l.val, by have := tlt t; omega⟩ := (b4 m c t l).trans (V_v9 m c ⟨t.val, tlt t⟩ l)
  unfold outv OUTV
  by_cases hl : l.val < 128
  · refine (dif_pos hl).trans ?_
    refine Eq.trans ?_ (outRow_spec (QV (iblk m c 2 t) (xsv m c)) (iblk m c 1 t) 0 (by decide) (aX m c) (aS m c) (aW m c)
      ⟨t.val * 256 + l.val, by have := tlt t; omega⟩ ⟨l.val, hl⟩ (aWs m c) (aB m c) (fun u r v => ?_) (hs _) b Y X)
    · rw [← h3, ← h4]
      rfl
    · refine Eq.trans ?_ (QV_read m c t u r v l)
      exact congrArg (fun a : Fin 256 => QV (iblk m c 2 t) (xsv m c) (ix4 u r v a)) (Fin.ext (by show 0 + l.val = l.val; omega))
  · refine (dif_neg hl).trans ?_
    refine Eq.trans ?_ (outRow_spec (QV (iblk m c 2 t) (xsv m c)) (iblk m c 1 t) 128 (by decide) (aX m c) (aS m c) (aW m c)
      ⟨t.val * 256 + l.val, by have := tlt t; omega⟩ ⟨l.val - 128, by omega⟩ (aWs m c) (aB m c) (fun u r v => ?_) (hs _) b Y X)
    · rw [← h3, ← h4]
      rfl
    · refine Eq.trans ?_ (QV_read m c t u r v l)
      exact congrArg (fun a : Fin 256 => QV (iblk m c 2 t) (xsv m c) (ix4 u r v a)) (Fin.ext (by show 128 + (l.val - 128) = l.val; omega))

theorem final (c : Dev nD) : (dats m 0 c).arrAt 5 cfg0.N = RES m c := by
  refine (dats m 0 c).arrAt_eq_of_covers 5 _ (by decide +kernel) fun t hf y => ?_
  blk_simp
  rw [after0_5]
  obtain ⟨b, Y, X, l, rfl⟩ : ∃ (b : Fin 2) (Y : Fin 80) (X : Fin 32) (l : Fin 256), y = (ix4 b Y X l : S2x80x32x256.Idx) := ⟨y 0, y 1, y 2, y 3, (ix4_eta (y : S2x80x32x256.Idx)).symm⟩
  refine (outv_read m c t b Y X l).trans ?_
  blk_ext [idx t]

/-- The transposed array @main returns. -/
def OUT (c : Dev nD) : S2x1280x80x32.Idx → EReal := fun y =>
  Spec.conv (aX m c) (aS m c) (aW m c) (aWs m c) (aB m c) (y 0) (y 1) (y 2) (y 3)

theorem tail_v11 (c : Dev nD) : Pipeline.afterTail₀ cfgs (dats m) 0 (V0 m) [hostOps1] c main_v11 = OUT m c := by
  unfold Pipeline.afterTail₀
  show StableHlo.after hostOps1 _ _ = _
  after_results
  have h : Pipeline.withArrays (cfgs 0).spec c (V0 m c) (fun w => (dats m 0 c).arrAt w (cfgs 0).N) (Proc.devRef .tc main_v10) = RES m c :=
    (Pipeline.withArrays_arr (cfgs 0).spec (by decide) c (V0 m c) (fun w => (dats m 0 c).arrAt w (cfgs 0).N) 5).trans (final m c)
  rw [h]
  funext y
  obtain ⟨b, o, Y, X, rfl⟩ : ∃ (b : Fin 2) (o : Fin 1280) (Y : Fin 80) (X : Fin 32), y = (ix4 b o Y X : S2x1280x80x32.Idx) := ⟨y 0, y 1, y 2, y 3, (ix4_eta (y : S2x1280x80x32.Idx)).symm⟩
  pointwise [RES, OUT]

/-- The run: the result is the convolution of the arguments, which end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v11) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v11 (Pipeline.mem_restRefs_of main_v11 (by decide) (by decide))).trans (tail_v11 m c), h.2 c⟩)
    (θ_run_and (run_main m ρ) (Cert.KernelIdeal.Gen.frame_of m ρ (dats m) (A_eq m) (run_main m ρ)))

end Cert.KernelIdeal.Hand
-- ==== Proof.RI.Tail.lean ====
module

public import proofs.«01_k».proof.Proof.Gen.ReferenceIdeal.Frame
public import Idealize.ShloMosaic.Lib.Pipeline.ValueKit
public import Idealize.ShloMosaic.Lib.Claim

@[expose] public section
set_option maxRecDepth 16384
noncomputable section
namespace Cert.ReferenceIdeal.Hand
open Idealize.ShloMosaic Idealize.ShloMosaic.TcCoe Idealize.SL.Sem
open Cert.ReferenceIdeal Cert.ReferenceIdeal.Gen

/-! The reference's host operations, read at an index. -/

variable (σ : Valuation τ sig (Elt Ideal))

/-- A buffer's contents as an array of extended reals. -/
abbrev rd (s : Shape) (x : s.Idx → EReal) : s.Idx → EReal := x

/-- The doubled, scaled image. -/
theorem scaled_read (b : Fin 2) (k : Fin 1792) (Y : Fin 80) (X : Fin 32) :
    rd S2x1792x80x32 (StableHlo.after hostOps1 σ (Proc.devRef .tc main_v8)) (ix4 b k Y X)
      = rd S2x1792x40x16 (σ (Proc.devRef .tc main_v0_0)) (ix4 b k ⟨Y.val / 2, by omega⟩ ⟨X.val / 2, by omega⟩)
          * rd S2x40x16 (σ (Proc.devRef .tc main_arg1)) (ix3 b ⟨Y.val / 2, by omega⟩ ⟨X.val / 2, by omega⟩) := by
  show StableHlo.after hostOps1 _ _ _ = _
  after_results
  pointwise

theorem zero_read : (StableHlo.after hostOps1 σ (Proc.devRef .tc main_c) : IVec S_ 32) = constantI S_ 32 0#32 := by
  show StableHlo.after hostOps1 _ _ = _
  after_results

theorem pad_v9 : rd S2x1792x82x34 (StableHlo.after hostOps1_1 σ (Proc.devRef .tc main_v9))
    = pad S2x1792x82x34 ![0, 0, 1, 1] ![0, 0, 1, 1] ![0, 0, 0, 0] (rd S2x1792x80x32 (σ (Proc.devRef .tc main_v8)))
        (sitofp (F := Ideal) .bf16 (σ (Proc.devRef .tc main_c) : IVec S_ 32))
        pads_S2x1792x80x32_S2x1792x82x34_000_000_110_110 h_S_ := by
  show StableHlo.after hostOps1_1 _ _ = _
  after_results
  rfl

theorem pad_at (x : S2x1792x80x32.Idx → EReal) (b : Fin 2) (k : Fin 1792) (Y : Fin 82) (X : Fin 34) :
    rd S2x1792x82x34 (pad S2x1792x82x34 ![0, 0, 1, 1] ![0, 0, 1, 1] ![0, 0, 0, 0] x
        (sitofp (F := Ideal) .bf16 (constantI S_ 32 0#32))
        pads_S2x1792x80x32_S2x1792x82x34_000_000_110_110 h_S_) (ix4 b k Y X)
      = if h : (1 ≤ Y.val ∧ Y.val ≤ 80) ∧ (1 ≤ X.val ∧ X.val ≤ 32) then
          x (ix4 b k ⟨Y.val - 1, by omega⟩ ⟨X.val - 1, by omega⟩) else 0 := by
  pointwise
  have z : (FloatOps.sitofp (F := Ideal) FTy.bf16 (0#32) : EReal) = 0 := by
    show (((0#32 : BitVec 32).toInt : ℝ) : EReal) = 0
    simp
  by_cases h : (1 ≤ Y.val ∧ Y.val ≤ 80) ∧ (1 ≤ X.val ∧ X.val ≤ 32)
  · rw [dif_pos h, dif_pos (by omega)]
  · rw [dif_neg h, dif_neg (by omega)]
    exact z

/-- The operations up to the nine shifted images. -/
def head : List (HloOp τ sig (Elt Ideal)) := hostOps1_2.take 18
/-- The operations from the stacking of the nine shifted images on. -/
def last : List (HloOp τ sig (Elt Ideal)) := hostOps1_2.drop 18

theorem head_last : StableHlo.after hostOps1_2 σ = StableHlo.after last (StableHlo.after head σ) := by
  rw [← StableHlo.after_append]
  rfl

/-- `v` is the padded image `P` shifted to tap `t` of the nine: `t / 3` rows and `t % 3` columns. -/
def Shifted (P : S2x1792x82x34.Idx → EReal) (t : Fin 9) (v : S2x1792x1x80x32.Idx → EReal) : Prop :=
  ∀ (b : Fin 2) (k : Fin 1792) (Y : Fin 80) (X : Fin 32),
    v (ix5 b k (0 : Fin 1) Y X) = P (ix4 b k ⟨t.val / 3 + Y.val, by omega⟩ ⟨t.val % 3 + X.val, by omega⟩)

/-- The nine buffers that are stacked hold the padded image at the nine shifts. -/
def Nine (P : S2x1792x82x34.Idx → EReal) : Prop :=
  Shifted P 0 (σ (Proc.devRef .tc main_v19)) ∧ Shifted P 1 (σ (Proc.devRef .tc main_v20))
    ∧ Shifted P 2 (σ (Proc.devRef .tc main_v21)) ∧ Shifted P 3 (σ (Proc.devRef .tc main_v22))
    ∧ Shifted P 4 (σ (Proc.devRef .tc main_v23)) ∧ Shifted P 5 (σ (Proc.devRef .tc main_v24))
    ∧ Shifted P 6 (σ (Proc.devRef .tc main_v25)) ∧ Shifted P 7 (σ (Proc.devRef .tc main_v26))
    ∧ Shifted P 8 (σ (Proc.devRef .tc main_v27))

theorem head_read : Nine (StableHlo.after head σ) (rd S2x1792x82x34 (σ (Proc.devRef .tc main_v9))) := by
  unfold head
  dsimp only [hostOps1_2, List.take]
  refine ⟨?_, ?_, ?_, ?_, ?_, ?_, ?_, ?_, ?_⟩ <;> intro b k Y X <;> after_results <;> pointwise

/-- The shifts leave the weights, the channel scales and the bias as they were. -/
theorem head_kept : StableHlo.after head σ (Proc.devRef .tc main_v0_1) = σ (Proc.devRef .tc main_v0_1)
    ∧ StableHlo.after head σ (Proc.devRef .tc main_arg3) = σ (Proc.devRef .tc main_arg3)
    ∧ StableHlo.after head σ (Proc.devRef .tc main_arg4) = σ (Proc.devRef .tc main_arg4) := by
  unfold head
  dsimp only [hostOps1_2, List.take]
  refine ⟨?_, ?_, ?_⟩ <;> after_results

/-- So do the scaling, the doubling and the padding. -/
theorem start_kept :
    StableHlo.after hostOps1_1 (StableHlo.after hostOps1 σ) (Proc.devRef .tc main_v0_1) = σ (Proc.devRef .tc main_v0_1)
    ∧ StableHlo.after hostOps1_1 (StableHlo.after hostOps1 σ) (Proc.devRef .tc main_arg3) = σ (Proc.devRef .tc main_arg3)
    ∧ StableHlo.after hostOps1_1 (StableHlo.after hostOps1 σ) (Proc.devRef .tc main_arg4) = σ (Proc.devRef .tc main_arg4) := by
  rw [← StableHlo.after_append]
  dsimp only [hostOps1, hostOps1_1, List.cons_append, List.nil_append]
  refine ⟨?_, ?_, ?_⟩ <;> after_results

/-- The stack of nine images, times the weights, summed over channels and taps; then the channel scale and the bias. -/
theorem last_read (P : S2x1792x82x34.Idx → EReal) (hP : Nine σ P)
    (b : Fin 2) (o : Fin 1280) (Y : Fin 80) (X : Fin 32) :
    rd S2x1280x80x32 (StableHlo.after last σ (Proc.devRef .tc main_v38)) (ix4 b o Y X)
      = (∑ k : Fin 1792, ∑ t : Fin 9, P (ix4 b k ⟨t.val / 3 + Y.val, by omega⟩ ⟨t.val % 3 + X.val, by omega⟩)
          * rd S1280x1792x3x3 (σ (Proc.devRef .tc main_v0_1)) (ix4 o k ⟨t.val / 3, by omega⟩ ⟨t.val % 3, by omega⟩))
          * rd S1280 (σ (Proc.devRef .tc main_arg3)) (ix1 o) + rd S1280 (σ (Proc.devRef .tc main_arg4)) (ix1 o) := by
  show StableHlo.after last _ _ _ = _
  unfold last
  dsimp only [hostOps1_2, List.drop]
  after_results
  pointwise
  refine congrArg (fun z : EReal => z * rd S1280 (σ (Proc.devRef .tc main_arg3)) (ix1 o) + rd S1280 (σ (Proc.devRef .tc main_arg4)) (ix1 o)) ?_
  refine Finset.sum_congr rfl fun k _ => Finset.sum_congr rfl fun t _ => congrArg (fun z : EReal => z * rd S1280x1792x3x3 (σ (Proc.devRef .tc main_v0_1)) (ix4 o k ⟨t.val / 3, by omega⟩ ⟨t.val % 3, by omega⟩)) ?_
  obtain ⟨h0, h1, h2, h3, h4, h5, h6, h7, h8⟩ := hP
  match t with
  | ⟨0, _⟩ => exact h0 b k Y X
  | ⟨1, _⟩ => exact h1 b k Y X
  | ⟨2, _⟩ => exact h2 b k Y X
  | ⟨3, _⟩ => exact h3 b k Y X
  | ⟨4, _⟩ => exact h4 b k Y X
  | ⟨5, _⟩ => exact h5 b k Y X
  | ⟨6, _⟩ => exact h6 b k Y X
  | ⟨7, _⟩ => exact h7 b k Y X
  | ⟨8, _⟩ => exact h8 b k Y X
end Cert.ReferenceIdeal.Hand
-- ==== Proof.Algebra.lean ====
module

public import proofs.«01_k».proof.Proof.Spec

@[expose] public section
noncomputable section
namespace Cert.Spec

/-! The convolution with the scale applied first, pixel by pixel, is the convolution with the scale applied to each tap's sum. -/

/-- A factor that is at least zero and finite comes out of a sum of extended reals. -/
theorem sum_mul_of_finite {n : ℕ} (f : Fin n → EReal) (s : EReal) (h0 : 0 ≤ s) (h1 : s ≠ ⊤) :
    (∑ k, f k) * s = ∑ k, f k * s := by
  induction (Finset.univ : Finset (Fin n)) using Finset.induction_on with
  | empty => simp
  | insert a t ha ih => rw [Finset.sum_insert ha, Finset.sum_insert ha, EReal.right_distrib_of_nonneg_of_ne_top h0 h1, ih]

/-- One tap with the scale applied first. -/
theorem tap_scaled (x : Fin 2 → Fin 1792 → Fin 40 → Fin 16 → EReal) (s : Fin 2 → Fin 40 → Fin 16 → EReal)
    (w : Fin 1280 → Fin 1792 → Fin 3 → Fin 3 → EReal) (hs : ∀ b i j, 0 ≤ s b i j ∧ s b i j ≠ ⊤)
    (b : Fin 2) (o : Fin 1280) (Y : Fin 80) (X : Fin 32) (dy dx : Fin 3) :
    (∑ k : Fin 1792, (if h : (1 ≤ dy.val + Y.val ∧ dy.val + Y.val ≤ 80) ∧ (1 ≤ dx.val + X.val ∧ dx.val + X.val ≤ 32) then
        x b k ⟨(dy.val + Y.val - 1) / 2, by omega⟩ ⟨(dx.val + X.val - 1) / 2, by omega⟩
          * s b ⟨(dy.val + Y.val - 1) / 2, by omega⟩ ⟨(dx.val + X.val - 1) / 2, by omega⟩ else 0) * w o k dy dx)
      = tap x s w b o Y X dy dx := by
  unfold tap
  by_cases h : (1 ≤ dy.val + Y.val ∧ dy.val + Y.val ≤ 80) ∧ (1 ≤ dx.val + X.val ∧ dx.val + X.val ≤ 32)
  · have e1 : (⟨(dy.val + Y.val - 1) / 2, by omega⟩ : Fin 40) = ⟨min (Y.val / 2 + (Y.val % 2 + dy.val + 1) / 2 - 1) 39, by omega⟩ :=
      Fin.ext (by show (dy.val + Y.val - 1) / 2 = min (Y.val / 2 + (Y.val % 2 + dy.val + 1) / 2 - 1) 39; omega)
    have e2 : (⟨(dx.val + X.val - 1) / 2, by omega⟩ : Fin 16) = ⟨min (X.val / 2 + (X.val % 2 + dx.val + 1) / 2 - 1) 15, by omega⟩ :=
      Fin.ext (by show (dx.val + X.val - 1) / 2 = min (X.val / 2 + (X.val % 2 + dx.val + 1) / 2 - 1) 15; omega)
    rw [if_pos (by omega), sum_mul_of_finite _ _ (hs b _ _).1 (hs b _ _).2]
    refine Finset.sum_congr rfl fun k _ => ?_
    rw [dif_pos h, e1, e2, mul_right_comm]
  · rw [if_neg (by omega)]
    refine Finset.sum_eq_zero fun k _ => ?_
    rw [dif_neg h, zero_mul]

/-- The reference's sum over channels and taps is the convolution. -/
theorem conv_scaled (x : Fin 2 → Fin 1792 → Fin 40 → Fin 16 → EReal) (s : Fin 2 → Fin 40 → Fin 16 → EReal)
    (w : Fin 1280 → Fin 1792 → Fin 3 → Fin 3 → EReal) (ws bi : Fin 1280 → EReal) (hs : ∀ b i j, 0 ≤ s b i j ∧ s b i j ≠ ⊤)
    (q : Fin 2 → Fin 1792 → Fin 9 → Fin 80 → Fin 32 → EReal)
    (hq : ∀ b k (t : Fin 9) Y X, q b k t Y X =
      if h : (1 ≤ t.val / 3 + Y.val ∧ t.val / 3 + Y.val ≤ 80) ∧ (1 ≤ t.val % 3 + X.val ∧ t.val % 3 + X.val ≤ 32) then
        x b k ⟨(t.val / 3 + Y.val - 1) / 2, by omega⟩ ⟨(t.val % 3 + X.val - 1) / 2, by omega⟩
          * s b ⟨(t.val / 3 + Y.val - 1) / 2, by omega⟩ ⟨(t.val % 3 + X.val - 1) / 2, by omega⟩ else 0)
    (b : Fin 2) (o : Fin 1280) (Y : Fin 80) (X : Fin 32) :
    (∑ k : Fin 1792, ∑ t : Fin 9, q b k t Y X * w o k ⟨t.val / 3, by omega⟩ ⟨t.val % 3, by omega⟩) * ws o + bi o
      = conv x s w ws bi b o Y X := by
  have ht : ∀ t : Fin 9, (∑ k : Fin 1792, q b k t Y X * w o k ⟨t.val / 3, by omega⟩ ⟨t.val % 3, by omega⟩)
      = tap x s w b o Y X ⟨t.val / 3, by omega⟩ ⟨t.val % 3, by omega⟩ := fun t => by
    rw [← tap_scaled x s w hs b o Y X ⟨t.val / 3, by omega⟩ ⟨t.val % 3, by omega⟩]
    exact Finset.sum_congr rfl fun k _ => by rw [hq]
  rw [Finset.sum_comm, Finset.sum_congr rfl fun t _ => ht t]
  unfold conv
  refine congrArg (fun z : EReal => z * ws o + bi o) ?_
  rw [Fin.sum_univ_succ, Fin.sum_univ_eight]
  show tap x s w b o Y X 0 0 + (tap x s w b o Y X 0 1 + tap x s w b o Y X 0 2 + tap x s w b o Y X 1 0 + tap x s w b o Y X 1 1
    + tap x s w b o Y X 1 2 + tap x s w b o Y X 2 0 + tap x s w b o Y X 2 1 + tap x s w b o Y X 2 2) = _
  abel

end Cert.Spec
-- ==== Proof.RI.Value.lean ====
module

public import proofs.«01_k».proof.Proof.RI.Tail
public import proofs.«01_k».proof.Proof.Algebra

@[expose] public section
set_option maxRecDepth 16384
noncomputable section
namespace Cert.ReferenceIdeal.Hand
open Idealize.ShloMosaic Idealize.ShloMosaic.TcCoe Idealize.SL.Sem
open Idealize.ShloMosaic.Pipeline Cert.ReferenceIdeal Cert.ReferenceIdeal.Gen

/-! The reference's result is the convolution of its arguments, where the scales are at least zero and finite. -/

variable (m : (ℓ : Loc nD τ sig) → Buf (Elt Ideal) ℓ)

/-- The image. -/
def aX (c : Dev nD) : Fin 2 → Fin 1792 → Fin 40 → Fin 16 → EReal := fun b k i j => (m ((c : Thread nD τ).loc main_arg0) : S2x1792x40x16.Idx → EReal) (ix4 b k i j)
/-- The scale of each pixel. -/
def aS (c : Dev nD) : Fin 2 → Fin 40 → Fin 16 → EReal := fun b i j => (m ((c : Thread nD τ).loc main_arg1) : S2x40x16.Idx → EReal) (ix3 b i j)
/-- The weights. -/
def aW (c : Dev nD) : Fin 1280 → Fin 1792 → Fin 3 → Fin 3 → EReal := fun o k i j => (m ((c : Thread nD τ).loc main_arg2) : S1280x1792x3x3.Idx → EReal) (ix4 o k i j)
/-- The scale of each output channel. -/
def aWs (c : Dev nD) : Fin 1280 → EReal := fun o => (m ((c : Thread nD τ).loc main_arg3) : S1280.Idx → EReal) (ix1 o)
/-- The bias of each output channel. -/
def aB (c : Dev nD) : Fin 1280 → EReal := fun o => (m ((c : Thread nD τ).loc main_arg4) : S1280.Idx → EReal) (ix1 o)

/-- The array @main returns. -/
def OUT (c : Dev nD) : S2x1280x80x32.Idx → EReal := fun y =>
  Spec.conv (aX m c) (aS m c) (aW m c) (aWs m c) (aB m c) (y 0) (y 1) (y 2) (y 3)

theorem idx : ∀ t : Fin cfg0.N, win0_0.index t = ![0, 0, 0, 0] ∧ win0_1.index t = ![0, 0, 0, 0] :=
  (by decide +kernel : ∀ t : Fin grid0.N, _)

theorem b0 (c : Dev nD) : (iblk m c 0 t0_0 : S2x1792x40x16.Idx → EReal) = m ((c : Thread nD τ).loc main_arg0) := by
  blk_ext! [iblk, V, idx t0_0]

theorem b1 (c : Dev nD) : (iblk m c 1 t0_0 : S1280x1792x3x3.Idx → EReal) = m ((c : Thread nD τ).loc main_arg2) := by
  blk_ext! [iblk, V, idx t0_0]

theorem final2 (c : Dev nD) : (dats m 0 c).arrAt 2 cfg0.N = m ((c : Thread nD τ).loc main_arg0) := by
  refine (dats m 0 c).arrAt_eq_of_after_last 2 t0_0 (by decide +kernel) _ fun j => ?_
  blk_simp
  rw [after0_2]
  unfold out0_2
  canon_tiles x h
  pointwise [k0_pay1]
  have e : (j : S2x1792x40x16.Idx) = x := by
    funext d
    match d with
    | ⟨0, _⟩ => exact Fin.ext h0
    | ⟨1, _⟩ => exact Fin.ext h1
    | ⟨2, _⟩ => exact Fin.ext h2
    | ⟨3, _⟩ => exact Fin.ext h3
  refine (congrFun (b0 m c) x).trans ?_
  exact congrArg (rd S2x1792x40x16 (m ((c : Thread nD τ).loc main_arg0))) e.symm

theorem final3 (c : Dev nD) : (dats m 0 c).arrAt 3 cfg0.N = m ((c : Thread nD τ).loc main_arg2) := by
  refine (dats m 0 c).arrAt_eq_of_after_last 3 t0_0 (by decide +kernel) _ fun j => ?_
  blk_simp
  rw [after0_3]
  unfold out0_3
  canon_tiles x h
  pointwise [k0_pay2]
  have e : (j : S1280x1792x3x3.Idx) = x := by
    funext d
    match d with
    | ⟨0, _⟩ => exact Fin.ext h0
    | ⟨1, _⟩ => exact Fin.ext h1
    | ⟨2, _⟩ => exact Fin.ext h2
    | ⟨3, _⟩ => exact Fin.ext h3
  refine (congrFun (b1 m c) x).trans ?_
  exact congrArg (rd S1280x1792x3x3 (m ((c : Thread nD τ).loc main_arg2))) e.symm

theorem pads_read (σ : Valuation τ sig (Elt Ideal)) (b : Fin 2) (k : Fin 1792) (Y : Fin 82) (X : Fin 34) :
    rd S2x1792x82x34 (StableHlo.after hostOps1_1 (StableHlo.after hostOps1 σ) (Proc.devRef .tc main_v9)) (ix4 b k Y X)
      = if h : (1 ≤ Y.val ∧ Y.val ≤ 80) ∧ (1 ≤ X.val ∧ X.val ≤ 32) then
          rd S2x1792x40x16 (σ (Proc.devRef .tc main_v0_0)) (ix4 b k ⟨(Y.val - 1) / 2, by omega⟩ ⟨(X.val - 1) / 2, by omega⟩)
          * rd S2x40x16 (σ (Proc.devRef .tc main_arg1)) (ix3 b ⟨(Y.val - 1) / 2, by omega⟩ ⟨(X.val - 1) / 2, by omega⟩) else 0 := by
  rw [pad_v9, zero_read]
  refine (pad_at _ b k Y X).trans ?_
  by_cases h : (1 ≤ Y.val ∧ Y.val ≤ 80) ∧ (1 ≤ X.val ∧ X.val ≤ 32)
  · rw [dif_pos h, dif_pos h]
    exact scaled_read σ b k ⟨Y.val - 1, by omega⟩ ⟨X.val - 1, by omega⟩
  · rw [dif_neg h, dif_neg h]

/-- The operations after the padding, from any contents whose padded image is that of `x` and `s`. -/
theorem tail_read (σ : Valuation τ sig (Elt Ideal)) (x : Fin 2 → Fin 1792 → Fin 40 → Fin 16 → EReal) (s : Fin 2 → Fin 40 → Fin 16 → EReal)
    (w : Fin 1280 → Fin 1792 → Fin 3 → Fin 3 → EReal) (ws bi : Fin 1280 → EReal) (hs : ∀ b i j, 0 ≤ s b i j ∧ s b i j ≠ ⊤)
    (P : S2x1792x82x34.Idx → EReal) (hP : rd S2x1792x82x34 (σ (Proc.devRef .tc main_v9)) = P)
    (hx : ∀ b k (Y : Fin 82) (X : Fin 34), P (ix4 b k Y X) = if h : (1 ≤ Y.val ∧ Y.val ≤ 80) ∧ (1 ≤ X.val ∧ X.val ≤ 32) then
      x b k ⟨(Y.val - 1) / 2, by omega⟩ ⟨(X.val - 1) / 2, by omega⟩ * s b ⟨(Y.val - 1) / 2, by omega⟩ ⟨(X.val - 1) / 2, by omega⟩ else 0)
    (W : S1280x1792x3x3.Idx → EReal) (hW : rd S1280x1792x3x3 (σ (Proc.devRef .tc main_v0_1)) = W) (hw : ∀ o k i j, W (ix4 o k i j) = w o k i j)
    (hws : ∀ o, rd S1280 (σ (Proc.devRef .tc main_arg3)) (ix1 o) = ws o)
    (hb : ∀ o, rd S1280 (σ (Proc.devRef .tc main_arg4)) (ix1 o) = bi o)
    (b : Fin 2) (o : Fin 1280) (Y : Fin 80) (X : Fin 32) :
    rd S2x1280x80x32 (StableHlo.after hostOps1_2 σ (Proc.devRef .tc main_v38)) (ix4 b o Y X) = Spec.conv x s w ws bi b o Y X := by
  obtain ⟨k1, k3, k4⟩ := head_kept σ
  have h := last_read (StableHlo.after head σ) P (hP ▸ head_read σ) b o Y X
  rw [k1, k3, k4, hws, hb, hW] at h
  rw [head_last]
  refine h.trans ?_
  have e := Spec.conv_scaled x s w ws bi hs (fun b k t Y X => P (ix4 b k ⟨t.val / 3 + Y.val, by omega⟩ ⟨t.val % 3 + X.val, by omega⟩))
    (fun b k t Y X => hx b k ⟨t.val / 3 + Y.val, by omega⟩ ⟨t.val % 3 + X.val, by omega⟩) b o Y X
  refine Eq.trans ?_ e
  exact congrArg (fun z : EReal => z * ws o + bi o) (Finset.sum_congr rfl fun k _ => Finset.sum_congr rfl fun t _ => congrArg _ (hw o k _ _))

/-- @main's host operations, from any contents whose widened image and weights are `x`, `w`. -/
theorem host_read (σ : Valuation τ sig (Elt Ideal)) (x : Fin 2 → Fin 1792 → Fin 40 → Fin 16 → EReal) (s : Fin 2 → Fin 40 → Fin 16 → EReal)
    (w : Fin 1280 → Fin 1792 → Fin 3 → Fin 3 → EReal) (ws bi : Fin 1280 → EReal) (hs : ∀ b i j, 0 ≤ s b i j ∧ s b i j ≠ ⊤)
    (hx : ∀ b k i j, rd S2x1792x40x16 (σ (Proc.devRef .tc main_v0_0)) (ix4 b k i j) = x b k i j)
    (hsc : ∀ b i j, rd S2x40x16 (σ (Proc.devRef .tc main_arg1)) (ix3 b i j) = s b i j)
    (hw : ∀ o k i j, rd S1280x1792x3x3 (σ (Proc.devRef .tc main_v0_1)) (ix4 o k i j) = w o k i j)
    (hws : ∀ o, rd S1280 (σ (Proc.devRef .tc main_arg3)) (ix1 o) = ws o)
    (hb : ∀ o, rd S1280 (σ (Proc.devRef .tc main_arg4)) (ix1 o) = bi o)
    (b : Fin 2) (o : Fin 1280) (Y : Fin 80) (X : Fin 32) :
    rd S2x1280x80x32 (StableHlo.after hostOps1_2 (StableHlo.after hostOps1_1 (StableHlo.after hostOps1 σ)) (Proc.devRef .tc main_v38)) (ix4 b o Y X)
      = Spec.conv x s w ws bi b o Y X :=
  tail_read _ x s w ws bi hs _ rfl (fun b k Y X => (pads_read σ b k Y X).trans (by
      by_cases h : (1 ≤ Y.val ∧ Y.val ≤ 80) ∧ (1 ≤ X.val ∧ X.val ≤ 32)
      · rw [dif_pos h, dif_pos h, hx, hsc]
      · rw [dif_neg h, dif_neg h])) _ (congrArg (rd S1280x1792x3x3) (start_kept σ).1) hw
    (fun o => (congrFun (congrArg (rd S1280) (start_kept σ).2.1) _).trans (hws o)) (fun o => (congrFun (congrArg (rd S1280) (start_kept σ).2.2) _).trans (hb o)) b o Y X

/-- The buffers at the region's exit. -/
abbrev σ₁ (c : Dev nD) : Valuation τ sig (Elt Ideal) :=
  Pipeline.withArrays (cfgs 0).spec c (V0 m c) fun w => (dats m 0 c).arrAt w (cfgs 0).N

theorem tail_v38 (c : Dev nD) (hs : ∀ b i j, 0 ≤ aS m c b i j ∧ aS m c b i j ≠ ⊤) :
    Pipeline.afterTail₀ cfgs (dats m) 0 (V0 m) [hostOps1, hostOps1_1, hostOps1_2] c main_v38 = OUT m c := by
  have h0 : σ₁ m c (Proc.devRef .tc main_v0_0) = m ((c : Thread nD τ).loc main_arg0) :=
    (Pipeline.withArrays_arr (cfgs 0).spec (by decide) c (V0 m c) (fun w => (dats m 0 c).arrAt w (cfgs 0).N) 2).trans (final2 m c)
  have h1 : σ₁ m c (Proc.devRef .tc main_v0_1) = m ((c : Thread nD τ).loc main_arg2) :=
    (Pipeline.withArrays_arr (cfgs 0).spec (by decide) c (V0 m c) (fun w => (dats m 0 c).arrAt w (cfgs 0).N) 3).trans (final3 m c)
  have a1 : σ₁ m c (Proc.devRef .tc main_arg1) = m ((c : Thread nD τ).loc main_arg1) :=
    Pipeline.withArrays_of_ne (cfgs 0).spec c (V0 m c) (fun w => (dats m 0 c).arrAt w (cfgs 0).N) main_arg1 (by decide)
  have a3 : σ₁ m c (Proc.devRef .tc main_arg3) = m ((c : Thread nD τ).loc main_arg3) :=
    Pipeline.withArrays_of_ne (cfgs 0).spec c (V0 m c) (fun w => (dats m 0 c).arrAt w (cfgs 0).N) main_arg3 (by decide)
  have a4 : σ₁ m c (Proc.devRef .tc main_arg4) = m ((c : Thread nD τ).loc main_arg4) :=
    Pipeline.withArrays_of_ne (cfgs 0).spec c (V0 m c) (fun w => (dats m 0 c).arrAt w (cfgs 0).N) main_arg4 (by decide)
  unfold Pipeline.afterTail₀
  have e : StableHlo.after (List.flatten [hostOps1, hostOps1_1, hostOps1_2]) (σ₁ m c)
      = StableHlo.after hostOps1_2 (StableHlo.after hostOps1_1 (StableHlo.after hostOps1 (σ₁ m c))) := by
    rw [← StableHlo.after_append, ← StableHlo.after_append]
    rfl
  refine (congrFun e _).trans ?_
  funext y
  obtain ⟨b, o, Y, X, rfl⟩ : ∃ (b : Fin 2) (o : Fin 1280) (Y : Fin 80) (X : Fin 32), y = (ix4 b o Y X : S2x1280x80x32.Idx) := ⟨y 0, y 1, y 2, y 3, (ix4_eta (y : S2x1280x80x32.Idx)).symm⟩
  exact host_read (σ₁ m c) (aX m c) (aS m c) (aW m c) (aWs m c) (aB m c) hs
    (fun b k i j => congrFun (congrArg (rd S2x1792x40x16) h0) _) (fun b i j => congrFun (congrArg (rd S2x40x16) a1) _)
    (fun o k i j => congrFun (congrArg (rd S1280x1792x3x3) h1) _) (fun o => congrFun (congrArg (rd S1280) a3) _)
    (fun o => congrFun (congrArg (rd S1280) a4) _) b o Y X

/-- The run: the result is the convolution of the arguments, which end unchanged. -/
theorem run_value (ρ : Dev nD → PrngReg) (hs : ∀ c b i j, 0 ≤ aS m c b i j ∧ aS m c b i j ≠ ⊤) :
    θ_run defs (onTc (τ := τ) (main (F := Ideal))) ⟨m, fun _ => 0, ρ⟩ (fun r => ∀ c : Dev nD,
      r.2.mem ((c.tc : Thread nD τ).loc main_v38) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v38 (Pipeline.mem_restRefs_of main_v38 (by decide) (by decide))).trans (tail_v38 m c (hs c)), h.2 c⟩)
    (θ_run_and (run_main m ρ) (unchanged m ρ))

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import Idealize.ShloMosaic.Lib.Claim
public import Idealize.ShloMosaic.Lib.Bf16Pair
public import proofs.«01_k».proof.Proof.K.Frame
public import proofs.«01_k».proof.Proof.KI.Value
public import proofs.«01_k».proof.Proof.RI.Value

@[expose] public section

set_option maxRecDepth 16384

noncomputable section

namespace Cert.Proof

open Idealize.ShloMosaic Idealize.SL.Sem

/-- The side condition of the predicate `scales_finite`. -/
theorem preFacts : Cert.Pre_scales_finite.Facts := ⟨by decide⟩

/-- Where `scales_finite` holds, each scale is at least zero and finite. -/
theorem scale_finite [Cert.Pre_scales_finite.Facts] (m : (ℓ : Loc Cert.KernelIdeal.nD Cert.KernelIdeal.τ Cert.KernelIdeal.sig) → Buf (Elt Ideal) ℓ)
    (h : Pre_KernelIdeal_scales_finite m) (c : Dev Cert.KernelIdeal.nD) (b : Fin 2) (i : Fin 40) (j : Fin 16) :
    0 ≤ Cert.KernelIdeal.Hand.aS m c b i j ∧ Cert.KernelIdeal.Hand.aS m c b i j ≠ ⊤ := by
  have e := congrFun (h c) (ix3 b i j)
  revert e
  pointwise [Cert.Pre_scales_finite.fn]
  intro e
  have k : ∀ x t : EReal, IntOp.andi (BitVec.ofBool (decide (0 ≤ x))) (BitVec.ofBool (decide (x < t))) = 1#1 → 0 ≤ x ∧ x ≠ ⊤ := by
    intro x t e
    by_cases h0 : 0 ≤ x
    · by_cases h1 : x < t
      · exact ⟨h0, ne_top_of_lt h1⟩
      · rw [decide_eq_true h0, decide_eq_false h1] at e
        exact absurd e (by decide)
    · rw [decide_eq_false h0] at e
      exfalso
      revert e
      generalize decide (x < t) = d
      cases d <;> decide
  exact k _ _ e

section
open Cert.KernelIdeal Cert.KernelIdeal.Gen
/-- The idealized kernel's frame. -/
theorem frame_KI (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  θ_run_and (Cert.KernelIdeal.Gen.frame_of m g (Cert.KernelIdeal.Hand.dats m) (Cert.KernelIdeal.Hand.A_eq m) (Cert.KernelIdeal.Hand.run_main m g))
    ((θ_run Cert.KernelIdeal.defs _ _).mono (fun _ h => h.2) (Cert.KernelIdeal.Hand.run_main_quiescent m g))
end

theorem algebraic : Cert.algebraic_KernelIdeal_ReferenceIdeal_pre_scales_finite (hKernelIdeal := Cert.KernelIdeal.Gen.facts)
    (hReferenceIdeal := Cert.ReferenceIdeal.Gen.facts) (hPre_scales_finite := preFacts) := by
  intro m g m' g' hpre hagree
  letI := preFacts
  refine ⟨fun c => Cert.KernelIdeal.Hand.OUT m c, Cert.KernelIdeal.Hand.run_value m g, ?_⟩
  have hS : ∀ c, Cert.ReferenceIdeal.Hand.aS m' c = Cert.KernelIdeal.Hand.aS m c := fun c =>
    congrArg (fun (x : Cert.KernelIdeal.S2x40x16.Idx → EReal) (b : Fin 2) (i : Fin 40) (j : Fin 16) => x (ix3 b i j)) (hagree c).2.1
  have hOut : ∀ c, Cert.ReferenceIdeal.Hand.OUT m' c = Cert.KernelIdeal.Hand.OUT m c := fun c => by
    have hX : Cert.ReferenceIdeal.Hand.aX m' c = Cert.KernelIdeal.Hand.aX m c :=
      congrArg (fun (x : Cert.KernelIdeal.S2x1792x40x16.Idx → EReal) (b : Fin 2) (k : Fin 1792) (i : Fin 40) (j : Fin 16) => x (ix4 b k i j)) (hagree c).1
    have hW : Cert.ReferenceIdeal.Hand.aW m' c = Cert.KernelIdeal.Hand.aW m c :=
      congrArg (fun (x : Cert.KernelIdeal.S1280x1792x3x3.Idx → EReal) (o : Fin 1280) (k : Fin 1792) (i j : Fin 3) => x (ix4 o k i j)) (hagree c).2.2.1
    have hWs : Cert.ReferenceIdeal.Hand.aWs m' c = Cert.KernelIdeal.Hand.aWs m c :=
      congrArg (fun (x : Cert.KernelIdeal.S1280.Idx → EReal) (o : Fin 1280) => x (ix1 o)) (hagree c).2.2.2.1
    have hB : Cert.ReferenceIdeal.Hand.aB m' c = Cert.KernelIdeal.Hand.aB m c :=
      congrArg (fun (x : Cert.KernelIdeal.S1280.Idx → EReal) (o : Fin 1280) => x (ix1 o)) (hagree c).2.2.2.2
    unfold Cert.ReferenceIdeal.Hand.OUT Cert.KernelIdeal.Hand.OUT
    rw [hX, hS c, hW, hWs, hB]
  refine (θ_run Cert.ReferenceIdeal.defs _ _).mono (fun _ h c => ⟨(h c).1.trans (hOut c), (h c).2⟩)
    (Cert.ReferenceIdeal.Hand.run_value m' g' fun c b i j => ?_)
  rw [hS c]
  exact scale_finite m hpre c b i j

theorem claim : Cert.Claim := ⟨Cert.Kernel.Gen.facts, Cert.KernelIdeal.Gen.facts, Cert.ReferenceIdeal.Gen.facts, preFacts,
  fun m g _ => Cert.Kernel.Hand.frame m g,
  fun m g _ => frame_KI m g,
  fun m g _ => frame_KI m g,
  fun m g _ => Cert.ReferenceIdeal.Gen.frame m g,
  fun m g _ => Cert.ReferenceIdeal.Gen.frame m g,
  ⟨IdealRules.bf16_pair.packStatement _, IdealRules.bf16_pair.statement _ _⟩,
  algebraic⟩

end Cert.Proof

end
